-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![8192, 1024]⟩ ⟨2, ![16384, 1024]⟩ (Layout.meshBlock [2, 4, 4] ![[0], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S8192x1024 : Shape := ⟨2, ![8192, 1024]⟩
abbrev S16384x1024 : Shape := ⟨2, ![16384, 1024]⟩
abbrev S2x256x1024 : Shape := ⟨3, ![2, 256, 1024]⟩
abbrev S2 : Shape := ⟨1, ![2]⟩
abbrev S32 : Shape := ⟨1, ![32]⟩
abbrev S11 : Shape := ⟨1, ![11]⟩
abbrev S10 : Shape := ⟨1, ![10]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8192x1024, .f32⟩
  | .hbm, ⟨1, _⟩ => ⟨S16384x1024, .bf16⟩
  | .local _ .vmem, ⟨0, _⟩ => ⟨S2x256x1024, .f32⟩
  | .local _ .vmem, ⟨1, _⟩ => ⟨S2x256x1024, .bf16⟩
  | _, _ => ⟨S8192x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  (ofTc nBuf bufTy 1 98 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_10 : BitVec 32 := 16#32
  let v19 : BitVec 32 := Scalar.muli v11 c16_i32_10
  let v20 : BitVec 32 := Scalar.addi c0_i32 v19
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_11 : BitVec 32 := 4#32
  let v21 : BitVec 32 := Scalar.muli v5 c4_i32_11
  let v22 : BitVec 32 := Scalar.addi v20 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v23 : BitVec 32 := Scalar.muli v8 c1_i32_12
  let v24 : BitVec 32 := Scalar.addi v22 v23
  v24.toNat
def k0_dev2 (d0 : Dev nD) : Nat :=
  let c0_i32_15 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_14 : BitVec 32 := 16#32
  let v25 : BitVec 32 := Scalar.muli v2 c16_i32_14
  let v26 : BitVec 32 := Scalar.addi c0_i32_15 v25
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_16 : BitVec 32 := 4#32
  let v27 : BitVec 32 := Scalar.muli v14 c4_i32_16
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v29 : BitVec 32 := Scalar.muli v8 c1_i32_17
  let v30 : BitVec 32 := Scalar.addi v28 v29
  v30.toNat
def k0_dev3 (d0 : Dev nD) : Nat :=
  let c0_i32_20 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_19 : BitVec 32 := 16#32
  let v31 : BitVec 32 := Scalar.muli v2 c16_i32_19
  let v32 : BitVec 32 := Scalar.addi c0_i32_20 v31
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_21 : BitVec 32 := 4#32
  let v33 : BitVec 32 := Scalar.muli v5 c4_i32_21
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_22 : BitVec 32 := 1#32
  let v35 : BitVec 32 := Scalar.muli v17 c1_i32_22
  let v36 : BitVec 32 := Scalar.addi v34 v35
  v36.toNat
def k0_off1 (d0 : Dev nD) (c0_i32_26 : BitVec 32) (c0_i32_29 : BitVec 32) : Fin 2 → Nat :=
  let c4_i32_28 : BitVec 32 := 4#32
  let c2_i32_25 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v40 : BitVec 32 := Scalar.muli c2_i32_25 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v41 : BitVec 32 := Scalar.addi v40 v10
  let v42 : BitVec 32 := Scalar.addi v41 c0_i32_26
  let c4_i32_27 : BitVec 32 := 4#32
  let v43 : BitVec 32 := Scalar.remsi v42 c4_i32_27
  let c7_i32 : BitVec 32 := 7#32
  let v44 : BitVec 32 := Scalar.muli v43 c7_i32
  let v45 : BitVec 32 := Scalar.addi c4_i32_28 v44
  let v46 : BitVec 32 := Scalar.addi v45 c0_i32_29
  let c256_i32 : BitVec 32 := 256#32
  let v47 : BitVec 32 := Scalar.muli v46 c256_i32
  let c0_i32_34 : BitVec 32 := 0#32
  ![v47.toNat, 0]
def k0_off2 (d0 : Dev nD) (c0_i32_35 : BitVec 32) (c0_i32_39 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v37 : BitVec 32 := Scalar.muli v2 c8192_i32
  let c4_i32_38 : BitVec 32 := 4#32
  let c2_i32_25 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v40 : BitVec 32 := Scalar.muli c2_i32_25 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v41 : BitVec 32 := Scalar.addi v40 v10
  let v53 : BitVec 32 := Scalar.addi v41 c0_i32_35
  let c4_i32_36 : BitVec 32 := 4#32
  let v54 : BitVec 32 := Scalar.remsi v53 c4_i32_36
  let c7_i32_37 : BitVec 32 := 7#32
  let v55 : BitVec 32 := Scalar.muli v54 c7_i32_37
  let v56 : BitVec 32 := Scalar.addi c4_i32_38 v55
  let v57 : BitVec 32 := Scalar.addi v56 c0_i32_39
  let c256_i32_61 : BitVec 32 := 256#32
  let v80 : BitVec 32 := Scalar.muli v57 c256_i32_61
  let v81 : BitVec 32 := Scalar.addi v37 v80
  let c0_i32_64 : BitVec 32 := 0#32
  ![v81.toNat, 0]
def k0_dev4 (d0 : Dev nD) : Nat :=
  let c0_i32_77 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_76 : BitVec 32 := 16#32
  let v96 : BitVec 32 := Scalar.muli v11 c16_i32_76
  let v97 : BitVec 32 := Scalar.addi c0_i32_77 v96
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_78 : BitVec 32 := 4#32
  let v98 : BitVec 32 := Scalar.muli v5 c4_i32_78
  let v99 : BitVec 32 := Scalar.addi v97 v98
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_79 : BitVec 32 := 1#32
  let v100 : BitVec 32 := Scalar.muli v8 c1_i32_79
  let v101 : BitVec 32 := Scalar.addi v99 v100
  v101.toNat
def k0_dev5 (d0 : Dev nD) : Nat :=
  let c0_i32_124 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_123 : BitVec 32 := 16#32
  let v151 : BitVec 32 := Scalar.muli v11 c16_i32_123
  let v152 : BitVec 32 := Scalar.addi c0_i32_124 v151
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_125 : BitVec 32 := 4#32
  let v153 : BitVec 32 := Scalar.muli v5 c4_i32_125
  let v154 : BitVec 32 := Scalar.addi v152 v153
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_126 : BitVec 32 := 1#32
  let v155 : BitVec 32 := Scalar.muli v8 c1_i32_126
  let v156 : BitVec 32 := Scalar.addi v154 v155
  v156.toNat
def k0_dev6 (d0 : Dev nD) : Nat :=
  let c0_i32_172 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_171 : BitVec 32 := 16#32
  let v206 : BitVec 32 := Scalar.muli v11 c16_i32_171
  let v207 : BitVec 32 := Scalar.addi c0_i32_172 v206
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_173 : BitVec 32 := 4#32
  let v208 : BitVec 32 := Scalar.muli v5 c4_i32_173
  let v209 : BitVec 32 := Scalar.addi v207 v208
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_174 : BitVec 32 := 1#32
  let v210 : BitVec 32 := Scalar.muli v8 c1_i32_174
  let v211 : BitVec 32 := Scalar.addi v209 v210
  v211.toNat
def k0_dev7 (d0 : Dev nD) : Nat :=
  let c0_i32_220 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_219 : BitVec 32 := 16#32
  let v261 : BitVec 32 := Scalar.muli v11 c16_i32_219
  let v262 : BitVec 32 := Scalar.addi c0_i32_220 v261
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_221 : BitVec 32 := 4#32
  let v263 : BitVec 32 := Scalar.muli v5 c4_i32_221
  let v264 : BitVec 32 := Scalar.addi v262 v263
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_222 : BitVec 32 := 1#32
  let v265 : BitVec 32 := Scalar.muli v8 c1_i32_222
  let v266 : BitVec 32 := Scalar.addi v264 v265
  v266.toNat
def k0_dev8 (d0 : Dev nD) : Nat :=
  let c0_i32_267 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_266 : BitVec 32 := 16#32
  let v316 : BitVec 32 := Scalar.muli v11 c16_i32_266
  let v317 : BitVec 32 := Scalar.addi c0_i32_267 v316
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_268 : BitVec 32 := 4#32
  let v318 : BitVec 32 := Scalar.muli v5 c4_i32_268
  let v319 : BitVec 32 := Scalar.addi v317 v318
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_269 : BitVec 32 := 1#32
  let v320 : BitVec 32 := Scalar.muli v8 c1_i32_269
  let v321 : BitVec 32 := Scalar.addi v319 v320
  v321.toNat
def k0_dev9 (d0 : Dev nD) : Nat :=
  let c0_i32_314 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_313 : BitVec 32 := 16#32
  let v371 : BitVec 32 := Scalar.muli v11 c16_i32_313
  let v372 : BitVec 32 := Scalar.addi c0_i32_314 v371
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_315 : BitVec 32 := 4#32
  let v373 : BitVec 32 := Scalar.muli v5 c4_i32_315
  let v374 : BitVec 32 := Scalar.addi v372 v373
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_316 : BitVec 32 := 1#32
  let v375 : BitVec 32 := Scalar.muli v8 c1_i32_316
  let v376 : BitVec 32 := Scalar.addi v374 v375
  v376.toNat
def k0_dev10 (d0 : Dev nD) : Nat :=
  let c0_i32_357 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_356 : BitVec 32 := 16#32
  let v420 : BitVec 32 := Scalar.muli v11 c16_i32_356
  let v421 : BitVec 32 := Scalar.addi c0_i32_357 v420
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v422 : BitVec 32 := Scalar.muli v5 c4_i32_358
  let v423 : BitVec 32 := Scalar.addi v421 v422
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v424 : BitVec 32 := Scalar.muli v8 c1_i32_359
  let v425 : BitVec 32 := Scalar.addi v423 v424
  v425.toNat
def k0_off3 (d0 : Dev nD) (c0_i32_380 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v37 : BitVec 32 := Scalar.muli v2 c8192_i32
  let v448 : BitVec 32 := Scalar.addi v37 c0_i32_380
  let c0_i32_383 : BitVec 32 := 0#32
  ![v448.toNat, 0]
def k0_dev11 (d0 : Dev nD) : Nat :=
  let c0_i32_396 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_395 : BitVec 32 := 16#32
  let v461 : BitVec 32 := Scalar.muli v11 c16_i32_395
  let v462 : BitVec 32 := Scalar.addi c0_i32_396 v461
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_397 : BitVec 32 := 4#32
  let v463 : BitVec 32 := Scalar.muli v5 c4_i32_397
  let v464 : BitVec 32 := Scalar.addi v462 v463
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_398 : BitVec 32 := 1#32
  let v465 : BitVec 32 := Scalar.muli v8 c1_i32_398
  let v466 : BitVec 32 := Scalar.addi v464 v465
  v466.toNat
def k0_dev12 (d0 : Dev nD) : Nat :=
  let c0_i32_433 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_432 : BitVec 32 := 16#32
  let v502 : BitVec 32 := Scalar.muli v11 c16_i32_432
  let v503 : BitVec 32 := Scalar.addi c0_i32_433 v502
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_434 : BitVec 32 := 4#32
  let v504 : BitVec 32 := Scalar.muli v5 c4_i32_434
  let v505 : BitVec 32 := Scalar.addi v503 v504
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_435 : BitVec 32 := 1#32
  let v506 : BitVec 32 := Scalar.muli v8 c1_i32_435
  let v507 : BitVec 32 := Scalar.addi v505 v506
  v507.toNat
def k0_dev13 (d0 : Dev nD) : Nat :=
  let c0_i32_470 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_469 : BitVec 32 := 16#32
  let v543 : BitVec 32 := Scalar.muli v11 c16_i32_469
  let v544 : BitVec 32 := Scalar.addi c0_i32_470 v543
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_471 : BitVec 32 := 4#32
  let v545 : BitVec 32 := Scalar.muli v5 c4_i32_471
  let v546 : BitVec 32 := Scalar.addi v544 v545
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v547 : BitVec 32 := Scalar.muli v8 c1_i32_472
  let v548 : BitVec 32 := Scalar.addi v546 v547
  v548.toNat
def k0_dev14 (d0 : Dev nD) : Nat :=
  let c0_i32_513 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_512 : BitVec 32 := 16#32
  let v590 : BitVec 32 := Scalar.muli v11 c16_i32_512
  let v591 : BitVec 32 := Scalar.addi c0_i32_513 v590
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_514 : BitVec 32 := 4#32
  let v592 : BitVec 32 := Scalar.muli v5 c4_i32_514
  let v593 : BitVec 32 := Scalar.addi v591 v592
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_515 : BitVec 32 := 1#32
  let v594 : BitVec 32 := Scalar.muli v8 c1_i32_515
  let v595 : BitVec 32 := Scalar.addi v593 v594
  v595.toNat
def k0_off4 (d0 : Dev nD) (c0_i32_522 : BitVec 32) : Fin 2 → Nat :=
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_23 v2
  let c8192_i32_24 : BitVec 32 := 8192#32
  let v39 : BitVec 32 := Scalar.muli v38 c8192_i32_24
  let c4_i32_521 : BitVec 32 := 4#32
  let c2_i32_25 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v40 : BitVec 32 := Scalar.muli c2_i32_25 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v41 : BitVec 32 := Scalar.addi v40 v10
  let c0_i32_518 : BitVec 32 := 0#32
  let v602 : BitVec 32 := Scalar.addi v41 c0_i32_518
  let c4_i32_519 : BitVec 32 := 4#32
  let v603 : BitVec 32 := Scalar.remsi v602 c4_i32_519
  let c7_i32_520 : BitVec 32 := 7#32
  let v604 : BitVec 32 := Scalar.muli v603 c7_i32_520
  let v605 : BitVec 32 := Scalar.addi c4_i32_521 v604
  let v606 : BitVec 32 := Scalar.addi v605 c0_i32_522
  let c256_i32_523 : BitVec 32 := 256#32
  let v607 : BitVec 32 := Scalar.muli v606 c256_i32_523
  let v608 : BitVec 32 := Scalar.addi v39 v607
  let c0_i32_807 : BitVec 32 := 0#32
  ![v608.toNat, 0]
def k0_dev15 (d0 : Dev nD) : Nat :=
  let c0_i32_818 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_817 : BitVec 32 := 16#32
  let v957 : BitVec 32 := Scalar.muli v2 c16_i32_817
  let v958 : BitVec 32 := Scalar.addi c0_i32_818 v957
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_819 : BitVec 32 := 4#32
  let v959 : BitVec 32 := Scalar.muli v14 c4_i32_819
  let v960 : BitVec 32 := Scalar.addi v958 v959
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_820 : BitVec 32 := 1#32
  let v961 : BitVec 32 := Scalar.muli v8 c1_i32_820
  let v962 : BitVec 32 := Scalar.addi v960 v961
  v962.toNat
def k0_dev16 (d0 : Dev nD) : Nat :=
  let c0_i32_827 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_826 : BitVec 32 := 16#32
  let v971 : BitVec 32 := Scalar.muli v2 c16_i32_826
  let v972 : BitVec 32 := Scalar.addi c0_i32_827 v971
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_828 : BitVec 32 := 4#32
  let v973 : BitVec 32 := Scalar.muli v5 c4_i32_828
  let v974 : BitVec 32 := Scalar.addi v972 v973
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_829 : BitVec 32 := 1#32
  let v975 : BitVec 32 := Scalar.muli v17 c1_i32_829
  let v976 : BitVec 32 := Scalar.addi v974 v975
  v976.toNat
def k0_off5 (d0 : Dev nD) (c0_i32_638 : BitVec 32) : Fin 2 → Nat :=
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_23 v2
  let c8192_i32_24 : BitVec 32 := 8192#32
  let v39 : BitVec 32 := Scalar.muli v38 c8192_i32_24
  let c4_i32_637 : BitVec 32 := 4#32
  let c2_i32_634 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v747 : BitVec 32 := Scalar.muli c2_i32_634 v9
  let c1_i32_635 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v748 : BitVec 32 := Scalar.subi c1_i32_635 v10
  let v749 : BitVec 32 := Scalar.addi v747 v748
  let c7_i32_636 : BitVec 32 := 7#32
  let v750 : BitVec 32 := Scalar.muli v749 c7_i32_636
  let v751 : BitVec 32 := Scalar.addi c4_i32_637 v750
  let v752 : BitVec 32 := Scalar.addi v751 c0_i32_638
  let c256_i32_639 : BitVec 32 := 256#32
  let v753 : BitVec 32 := Scalar.muli v752 c256_i32_639
  let v754 : BitVec 32 := Scalar.addi v39 v753
  let c0_i32_838 : BitVec 32 := 0#32
  ![v754.toNat, 0]
def k0_dev17 (d0 : Dev nD) : Nat :=
  let c0_i32_849 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_848 : BitVec 32 := 16#32
  let v1001 : BitVec 32 := Scalar.muli v2 c16_i32_848
  let v1002 : BitVec 32 := Scalar.addi c0_i32_849 v1001
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_850 : BitVec 32 := 4#32
  let v1003 : BitVec 32 := Scalar.muli v14 c4_i32_850
  let v1004 : BitVec 32 := Scalar.addi v1002 v1003
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_851 : BitVec 32 := 1#32
  let v1005 : BitVec 32 := Scalar.muli v8 c1_i32_851
  let v1006 : BitVec 32 := Scalar.addi v1004 v1005
  v1006.toNat
def k0_dev18 (d0 : Dev nD) : Nat :=
  let c0_i32_983 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_982 : BitVec 32 := 16#32
  let v1147 : BitVec 32 := Scalar.muli v2 c16_i32_982
  let v1148 : BitVec 32 := Scalar.addi c0_i32_983 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_984 : BitVec 32 := 4#32
  let v1149 : BitVec 32 := Scalar.muli v14 c4_i32_984
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_985 : BitVec 32 := 1#32
  let v1151 : BitVec 32 := Scalar.muli v8 c1_i32_985
  let v1152 : BitVec 32 := Scalar.addi v1150 v1151
  v1152.toNat
def k0_dev19 (d0 : Dev nD) : Nat :=
  let c0_i32_992 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_991 : BitVec 32 := 16#32
  let v1161 : BitVec 32 := Scalar.muli v2 c16_i32_991
  let v1162 : BitVec 32 := Scalar.addi c0_i32_992 v1161
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_993 : BitVec 32 := 4#32
  let v1163 : BitVec 32 := Scalar.muli v5 c4_i32_993
  let v1164 : BitVec 32 := Scalar.addi v1162 v1163
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_994 : BitVec 32 := 1#32
  let v1165 : BitVec 32 := Scalar.muli v17 c1_i32_994
  let v1166 : BitVec 32 := Scalar.addi v1164 v1165
  v1166.toNat
def k0_dev20 (d0 : Dev nD) : Nat :=
  let c0_i32_1014 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1013 : BitVec 32 := 16#32
  let v1191 : BitVec 32 := Scalar.muli v2 c16_i32_1013
  let v1192 : BitVec 32 := Scalar.addi c0_i32_1014 v1191
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_1015 : BitVec 32 := 4#32
  let v1193 : BitVec 32 := Scalar.muli v14 c4_i32_1015
  let v1194 : BitVec 32 := Scalar.addi v1192 v1193
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1016 : BitVec 32 := 1#32
  let v1195 : BitVec 32 := Scalar.muli v8 c1_i32_1016
  let v1196 : BitVec 32 := Scalar.addi v1194 v1195
  v1196.toNat
def k0_dev21 (d0 : Dev nD) : Nat :=
  let c0_i32_1147 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1146 : BitVec 32 := 16#32
  let v1337 : BitVec 32 := Scalar.muli v2 c16_i32_1146
  let v1338 : BitVec 32 := Scalar.addi c0_i32_1147 v1337
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_1148 : BitVec 32 := 4#32
  let v1339 : BitVec 32 := Scalar.muli v14 c4_i32_1148
  let v1340 : BitVec 32 := Scalar.addi v1338 v1339
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1149 : BitVec 32 := 1#32
  let v1341 : BitVec 32 := Scalar.muli v8 c1_i32_1149
  let v1342 : BitVec 32 := Scalar.addi v1340 v1341
  v1342.toNat
def k0_dev22 (d0 : Dev nD) : Nat :=
  let c0_i32_1156 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1155 : BitVec 32 := 16#32
  let v1351 : BitVec 32 := Scalar.muli v2 c16_i32_1155
  let v1352 : BitVec 32 := Scalar.addi c0_i32_1156 v1351
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1157 : BitVec 32 := 4#32
  let v1353 : BitVec 32 := Scalar.muli v5 c4_i32_1157
  let v1354 : BitVec 32 := Scalar.addi v1352 v1353
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_1158 : BitVec 32 := 1#32
  let v1355 : BitVec 32 := Scalar.muli v17 c1_i32_1158
  let v1356 : BitVec 32 := Scalar.addi v1354 v1355
  v1356.toNat
def k0_dev23 (d0 : Dev nD) : Nat :=
  let c0_i32_1178 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1177 : BitVec 32 := 16#32
  let v1381 : BitVec 32 := Scalar.muli v2 c16_i32_1177
  let v1382 : BitVec 32 := Scalar.addi c0_i32_1178 v1381
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_1179 : BitVec 32 := 4#32
  let v1383 : BitVec 32 := Scalar.muli v14 c4_i32_1179
  let v1384 : BitVec 32 := Scalar.addi v1382 v1383
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1180 : BitVec 32 := 1#32
  let v1385 : BitVec 32 := Scalar.muli v8 c1_i32_1180
  let v1386 : BitVec 32 := Scalar.addi v1384 v1385
  v1386.toNat
def k0_dev24 (d0 : Dev nD) : Nat :=
  let c0_i32_1311 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1310 : BitVec 32 := 16#32
  let v1527 : BitVec 32 := Scalar.muli v2 c16_i32_1310
  let v1528 : BitVec 32 := Scalar.addi c0_i32_1311 v1527
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_1312 : BitVec 32 := 4#32
  let v1529 : BitVec 32 := Scalar.muli v14 c4_i32_1312
  let v1530 : BitVec 32 := Scalar.addi v1528 v1529
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1313 : BitVec 32 := 1#32
  let v1531 : BitVec 32 := Scalar.muli v8 c1_i32_1313
  let v1532 : BitVec 32 := Scalar.addi v1530 v1531
  v1532.toNat
def k0_dev25 (d0 : Dev nD) : Nat :=
  let c0_i32_1320 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1319 : BitVec 32 := 16#32
  let v1541 : BitVec 32 := Scalar.muli v2 c16_i32_1319
  let v1542 : BitVec 32 := Scalar.addi c0_i32_1320 v1541
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1321 : BitVec 32 := 4#32
  let v1543 : BitVec 32 := Scalar.muli v5 c4_i32_1321
  let v1544 : BitVec 32 := Scalar.addi v1542 v1543
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_1322 : BitVec 32 := 1#32
  let v1545 : BitVec 32 := Scalar.muli v17 c1_i32_1322
  let v1546 : BitVec 32 := Scalar.addi v1544 v1545
  v1546.toNat
def k0_dev26 (d0 : Dev nD) : Nat :=
  let c0_i32_1342 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1341 : BitVec 32 := 16#32
  let v1571 : BitVec 32 := Scalar.muli v2 c16_i32_1341
  let v1572 : BitVec 32 := Scalar.addi c0_i32_1342 v1571
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_1343 : BitVec 32 := 4#32
  let v1573 : BitVec 32 := Scalar.muli v14 c4_i32_1343
  let v1574 : BitVec 32 := Scalar.addi v1572 v1573
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1344 : BitVec 32 := 1#32
  let v1575 : BitVec 32 := Scalar.muli v8 c1_i32_1344
  let v1576 : BitVec 32 := Scalar.addi v1574 v1575
  v1576.toNat
def k0_dev27 (d0 : Dev nD) : Nat :=
  let c0_i32_1475 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1474 : BitVec 32 := 16#32
  let v1717 : BitVec 32 := Scalar.muli v2 c16_i32_1474
  let v1718 : BitVec 32 := Scalar.addi c0_i32_1475 v1717
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_1476 : BitVec 32 := 4#32
  let v1719 : BitVec 32 := Scalar.muli v14 c4_i32_1476
  let v1720 : BitVec 32 := Scalar.addi v1718 v1719
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1477 : BitVec 32 := 1#32
  let v1721 : BitVec 32 := Scalar.muli v8 c1_i32_1477
  let v1722 : BitVec 32 := Scalar.addi v1720 v1721
  v1722.toNat
def k0_dev28 (d0 : Dev nD) : Nat :=
  let c0_i32_1484 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1483 : BitVec 32 := 16#32
  let v1731 : BitVec 32 := Scalar.muli v2 c16_i32_1483
  let v1732 : BitVec 32 := Scalar.addi c0_i32_1484 v1731
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1485 : BitVec 32 := 4#32
  let v1733 : BitVec 32 := Scalar.muli v5 c4_i32_1485
  let v1734 : BitVec 32 := Scalar.addi v1732 v1733
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_1486 : BitVec 32 := 1#32
  let v1735 : BitVec 32 := Scalar.muli v17 c1_i32_1486
  let v1736 : BitVec 32 := Scalar.addi v1734 v1735
  v1736.toNat
def k0_off6 (d0 : Dev nD) (c4_i32_592 : BitVec 32) : Fin 2 → Nat :=
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_23 v2
  let c8192_i32_24 : BitVec 32 := 8192#32
  let v39 : BitVec 32 := Scalar.muli v38 c8192_i32_24
  let c4_i32_591 : BitVec 32 := 4#32
  let c2_i32_589 : BitVec 32 := 2#32
  let c1_i32_588 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v687 : BitVec 32 := Scalar.subi c1_i32_588 v9
  let v688 : BitVec 32 := Scalar.muli c2_i32_589 v687
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v689 : BitVec 32 := Scalar.addi v688 v10
  let c7_i32_590 : BitVec 32 := 7#32
  let v690 : BitVec 32 := Scalar.muli v689 c7_i32_590
  let v691 : BitVec 32 := Scalar.addi c4_i32_591 v690
  let v692 : BitVec 32 := Scalar.addi v691 c4_i32_592
  let c256_i32_593 : BitVec 32 := 256#32
  let v693 : BitVec 32 := Scalar.muli v692 c256_i32_593
  let v694 : BitVec 32 := Scalar.addi v39 v693
  let c0_i32_1495 : BitVec 32 := 0#32
  ![v694.toNat, 0]
def k0_dev29 (d0 : Dev nD) : Nat :=
  let c0_i32_1506 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1505 : BitVec 32 := 16#32
  let v1761 : BitVec 32 := Scalar.muli v2 c16_i32_1505
  let v1762 : BitVec 32 := Scalar.addi c0_i32_1506 v1761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1507 : BitVec 32 := 4#32
  let v1763 : BitVec 32 := Scalar.muli v5 c4_i32_1507
  let v1764 : BitVec 32 := Scalar.addi v1762 v1763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_1508 : BitVec 32 := 1#32
  let v1765 : BitVec 32 := Scalar.muli v17 c1_i32_1508
  let v1766 : BitVec 32 := Scalar.addi v1764 v1765
  v1766.toNat
def k0_dev30 (d0 : Dev nD) : Nat :=
  let c0_i32_1639 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1638 : BitVec 32 := 16#32
  let v1907 : BitVec 32 := Scalar.muli v2 c16_i32_1638
  let v1908 : BitVec 32 := Scalar.addi c0_i32_1639 v1907
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_1640 : BitVec 32 := 4#32
  let v1909 : BitVec 32 := Scalar.muli v14 c4_i32_1640
  let v1910 : BitVec 32 := Scalar.addi v1908 v1909
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1641 : BitVec 32 := 1#32
  let v1911 : BitVec 32 := Scalar.muli v8 c1_i32_1641
  let v1912 : BitVec 32 := Scalar.addi v1910 v1911
  v1912.toNat
def k0_dev31 (d0 : Dev nD) : Nat :=
  let c0_i32_1648 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1647 : BitVec 32 := 16#32
  let v1921 : BitVec 32 := Scalar.muli v2 c16_i32_1647
  let v1922 : BitVec 32 := Scalar.addi c0_i32_1648 v1921
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1649 : BitVec 32 := 4#32
  let v1923 : BitVec 32 := Scalar.muli v5 c4_i32_1649
  let v1924 : BitVec 32 := Scalar.addi v1922 v1923
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_1650 : BitVec 32 := 1#32
  let v1925 : BitVec 32 := Scalar.muli v17 c1_i32_1650
  let v1926 : BitVec 32 := Scalar.addi v1924 v1925
  v1926.toNat
def k0_dev32 (d0 : Dev nD) : Nat :=
  let c0_i32_1670 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1669 : BitVec 32 := 16#32
  let v1951 : BitVec 32 := Scalar.muli v2 c16_i32_1669
  let v1952 : BitVec 32 := Scalar.addi c0_i32_1670 v1951
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1671 : BitVec 32 := 4#32
  let v1953 : BitVec 32 := Scalar.muli v5 c4_i32_1671
  let v1954 : BitVec 32 := Scalar.addi v1952 v1953
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_1672 : BitVec 32 := 1#32
  let v1955 : BitVec 32 := Scalar.muli v17 c1_i32_1672
  let v1956 : BitVec 32 := Scalar.addi v1954 v1955
  v1956.toNat
def k0_dev33 (d0 : Dev nD) : Nat :=
  let c0_i32_1792 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1791 : BitVec 32 := 16#32
  let v2086 : BitVec 32 := Scalar.muli v2 c16_i32_1791
  let v2087 : BitVec 32 := Scalar.addi c0_i32_1792 v2086
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_1793 : BitVec 32 := 4#32
  let v2088 : BitVec 32 := Scalar.muli v14 c4_i32_1793
  let v2089 : BitVec 32 := Scalar.addi v2087 v2088
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1794 : BitVec 32 := 1#32
  let v2090 : BitVec 32 := Scalar.muli v8 c1_i32_1794
  let v2091 : BitVec 32 := Scalar.addi v2089 v2090
  v2091.toNat
def k0_dev34 (d0 : Dev nD) : Nat :=
  let c0_i32_1801 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1800 : BitVec 32 := 16#32
  let v2100 : BitVec 32 := Scalar.muli v2 c16_i32_1800
  let v2101 : BitVec 32 := Scalar.addi c0_i32_1801 v2100
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1802 : BitVec 32 := 4#32
  let v2102 : BitVec 32 := Scalar.muli v5 c4_i32_1802
  let v2103 : BitVec 32 := Scalar.addi v2101 v2102
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_1803 : BitVec 32 := 1#32
  let v2104 : BitVec 32 := Scalar.muli v17 c1_i32_1803
  let v2105 : BitVec 32 := Scalar.addi v2103 v2104
  v2105.toNat
def k0_dev35 (d0 : Dev nD) : Nat :=
  let c0_i32_1823 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1822 : BitVec 32 := 16#32
  let v2130 : BitVec 32 := Scalar.muli v2 c16_i32_1822
  let v2131 : BitVec 32 := Scalar.addi c0_i32_1823 v2130
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1824 : BitVec 32 := 4#32
  let v2132 : BitVec 32 := Scalar.muli v5 c4_i32_1824
  let v2133 : BitVec 32 := Scalar.addi v2131 v2132
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_1825 : BitVec 32 := 1#32
  let v2134 : BitVec 32 := Scalar.muli v17 c1_i32_1825
  let v2135 : BitVec 32 := Scalar.addi v2133 v2134
  v2135.toNat
def k0_off7 (d0 : Dev nD) (c0_i32_560 : BitVec 32) : Fin 2 → Nat :=
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_23 v2
  let c8192_i32_24 : BitVec 32 := 8192#32
  let v39 : BitVec 32 := Scalar.muli v38 c8192_i32_24
  let v651 : BitVec 32 := Scalar.addi v39 c0_i32_560
  let c0_i32_1834 : BitVec 32 := 0#32
  ![v651.toNat, 0]
def k0_off8 (d0 : Dev nD) (c0_i32_611 : BitVec 32) : Fin 2 → Nat :=
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_23 v2
  let c8192_i32_24 : BitVec 32 := 8192#32
  let v39 : BitVec 32 := Scalar.muli v38 c8192_i32_24
  let c4_i32_610 : BitVec 32 := 4#32
  let c2_i32_607 : BitVec 32 := 2#32
  let c1_i32_606 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v711 : BitVec 32 := Scalar.subi c1_i32_606 v9
  let v712 : BitVec 32 := Scalar.muli c2_i32_607 v711
  let c1_i32_608 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v713 : BitVec 32 := Scalar.subi c1_i32_608 v10
  let v714 : BitVec 32 := Scalar.addi v712 v713
  let c7_i32_609 : BitVec 32 := 7#32
  let v715 : BitVec 32 := Scalar.muli v714 c7_i32_609
  let v716 : BitVec 32 := Scalar.addi c4_i32_610 v715
  let v717 : BitVec 32 := Scalar.addi v716 c0_i32_611
  let c256_i32_612 : BitVec 32 := 256#32
  let v718 : BitVec 32 := Scalar.muli v717 c256_i32_612
  let v719 : BitVec 32 := Scalar.addi v39 v718
  let c0_i32_1898 : BitVec 32 := 0#32
  ![v719.toNat, 0]
def k0_off9 (d0 : Dev nD) (c0_i32_682 : BitVec 32) : Fin 2 → Nat :=
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_23 v2
  let c8192_i32_24 : BitVec 32 := 8192#32
  let v39 : BitVec 32 := Scalar.muli v38 c8192_i32_24
  let c4_i32_680 : BitVec 32 := 4#32
  let c2_i32_677 : BitVec 32 := 2#32
  let c1_i32_676 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v803 : BitVec 32 := Scalar.subi c1_i32_676 v9
  let v804 : BitVec 32 := Scalar.muli c2_i32_677 v803
  let c1_i32_678 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v805 : BitVec 32 := Scalar.subi c1_i32_678 v10
  let v806 : BitVec 32 := Scalar.addi v804 v805
  let c7_i32_679 : BitVec 32 := 7#32
  let v807 : BitVec 32 := Scalar.muli v806 c7_i32_679
  let v808 : BitVec 32 := Scalar.addi c4_i32_680 v807
  let c4_i32_681 : BitVec 32 := 4#32
  let v809 : BitVec 32 := Scalar.addi v808 c4_i32_681
  let v810 : BitVec 32 := Scalar.addi v809 c0_i32_682
  let c256_i32_683 : BitVec 32 := 256#32
  let v811 : BitVec 32 := Scalar.muli v810 c256_i32_683
  let v812 : BitVec 32 := Scalar.addi v39 v811
  let c0_i32_1954 : BitVec 32 := 0#32
  ![v812.toNat, 0]
-- ==== Reference.lean ====
abbrev S16384x1024 : Shape := ⟨2, ![16384, 1024]⟩

abbrev nBuf : Space → Nat
  | .hbm => 2
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Plan.lean ====
/-
The plan of the gather, independent of any float values: which 256-row chunks a device copies, sends and receives, who
sends them, in which order — and the check that this order is sound.

A device is (x, y, z) = (c/16, (c/4)%4, c%4). The result has 64 chunks: 32 of the device's own half (its own block of the
operand, cast) and 32 of the other half, which arrive over three links: the x neighbour `nb 0`, the y neighbour `nb 1` and
the z neighbour `nb 2` (each an involution). A DMA semaphore is named by its number in the kernel's table: 0–1 the load
semaphores, 2–33 the local copies', 34–44 / 45–55 the x link's send / receive semaphores, 56–66 / 67–77 the y link's,
78–87 / 88–97 the z link's. The same numbers name the chunks that a semaphore's transfer moves; the numbers 0–31 name the
chunks of the own half in the order in which they are produced.
-/
module

public import Mathlib.Data.Fintype.Basic
public import Mathlib.Data.Finset.Basic
public import Mathlib.Order.Interval.Finset.Nat
public import Mathlib.Data.Finset.Range
public import Mathlib.Tactic.Tauto

@[expose] public section

namespace Cert.Plan

/-! ## The mesh -/

/-- The neighbour of device `c` over link `t`: 0 the x link, 1 the y link, 2 the z link. -/
def nb (t : Fin 3) (c : Fin 32) : Fin 32 :=
  let x := c.val / 16
  let y := (c.val / 4) % 4
  let z := c.val % 4
  match t with
  | 0 => Fin.ofNat 32 (16 * (1 - x) + 4 * y + z)
  | 1 => Fin.ofNat 32 (16 * x + 4 * (y + 1 - 2 * (y % 2)) + z)
  | 2 => Fin.ofNat 32 (16 * x + 4 * y + (z + 1 - 2 * (z % 2)))

theorem nb_nb : ∀ (t : Fin 3) (c : Fin 32), nb t (nb t c) = c := by decide +kernel

/-- The chunk of the half at which the quarter `2 a + b` of a half begins (after the four common chunks). -/
def quarter (a b : ℕ) : ℕ := 4 + 7 * (2 * a + b)

/-- The chunk, within a half, that device `c` produces `i`-th: its own quarter, the four common chunks, the other quarters
    in cyclic order. -/
def ord (c : Fin 32) (i : ℕ) : ℕ :=
  let q := 2 * ((c.val / 4) % 4 % 2) + c.val % 4 % 2
  if i < 7 then 4 + 7 * (q % 4) + i
  else if i < 11 then i - 7
  else 4 + 7 * ((q + (1 + (i - 11) / 7)) % 4) + (i - 11) % 7

/-- The chunk of the result (0–63) at which the transfer named `n` lands or from which it leaves; for `n < 32` the chunk of
    the own half produced `n`-th. -/
def rowOf (c : Fin 32) (n : ℕ) : ℕ :=
  let a := (c.val / 4) % 4 % 2
  let b := c.val % 4 % 2
  let own := 32 * (c.val / 16)
  let far := 32 * (1 - c.val / 16)
  if n < 34 then own + ord c n
  else if n < 45 then own + ord c (n - 34)
  else if n < 56 then far + ord c (n - 45)
  else if n < 63 then far + quarter a b + (n - 56)
  else if n < 67 then far + quarter a (1 - b) + (n - 63)
  else if n < 74 then far + quarter (1 - a) b + (n - 67)
  else if n < 78 then far + quarter (1 - a) (1 - b) + (n - 74)
  else if n < 85 then far + quarter a b + (n - 78)
  else if n < 88 then far + quarter (1 - a) b + 4 + (n - 85)
  else if n < 95 then far + quarter a (1 - b) + (n - 88)
  else far + quarter (1 - a) (1 - b) + 4 + (n - 95)

/-- The device whose block of the operand chunk `r` of device `c`'s result is a cast of. -/
def org (c : Fin 32) (r : ℕ) : Fin 32 :=
  let a := (c.val / 4) % 4 % 2
  let b := c.val % 4 % 2
  if r / 32 = c.val / 16 then c
  else if r % 32 < 4 then nb 0 c
  else
    let q := (r % 32 - 4) / 7
    let c₁ := if q / 2 = a then c else nb 1 c
    let c₂ := if q % 2 = b then c₁ else nb 2 c₁
    nb 0 c₂

/-- The share at which the transfer named `n` reads its source: a chunk that leaves over the y and the z link at once is
    lent in halves (1 and 2), every other one wholly (0). -/
def shareOf (n : ℕ) : Fin 3 := if 56 ≤ n ∧ n < 63 then 1 else if 78 ≤ n ∧ n < 85 then 2 else 0

/-- The send semaphores. -/
def sends : Finset ℕ := Finset.Ico 34 45 ∪ Finset.Ico 56 67 ∪ Finset.Ico 78 88
/-- The receive semaphores of link `t`. -/
def recvs : Fin 3 → Finset ℕ := fun | 0 => Finset.Ico 45 56 | 1 => Finset.Ico 67 78 | 2 => Finset.Ico 88 98
/-- All receive semaphores. -/
def allRecvs : Finset ℕ := Finset.Ico 45 56 ∪ Finset.Ico 67 78 ∪ Finset.Ico 88 98
/-- The link over which the transfer with send semaphore `n` leaves. -/
def link (n : ℕ) : Fin 3 := if n < 56 then 0 else if n < 78 then 1 else 2
/-- The receive semaphore, at the neighbour, of the transfer with send semaphore `n`. -/
def recvOf (n : ℕ) : ℕ := if n < 78 then n + 11 else n + 10
/-- The device to which device `c` sends with send semaphore `n`. -/
def peer (n : ℕ) (c : Fin 32) : Fin 32 := nb (link n) c

/-- The level of a DMA semaphore: a wait on it must lie below everything its device still owes. -/
def lvl (n : ℕ) : ℕ :=
  if n < 45 then 0
  else if n < 56 then 2
  else if n < 67 then 0
  else if n < 74 then 3 + 2 * (n - 67)
  else if n < 78 then 4 + 2 * (n - 74)
  else if n < 88 then 0
  else if n < 95 then 3 + 2 * (n - 88)
  else 4 + 2 * (n - 95 + 4)

/-- What a transfer sends is what its receiver expects: the same chunk, of the same device's block. -/
theorem send_agrees : ∀ n ∈ sends, ∀ c : Fin 32,
    rowOf (peer n c) (recvOf n) = rowOf c n ∧ org (peer n c) (rowOf c n) = org c (rowOf c n) := by decide +kernel

/-- The chunks of the result by number: the own half's 32, the 32 received. -/
def pieces : Finset ℕ := Finset.range 32 ∪ allRecvs

/-- The numbered chunks are distinct. -/
theorem rowOf_inj : ∀ c : Fin 32, ∀ n ∈ pieces, ∀ n' ∈ pieces, rowOf c n = rowOf c n' → n = n' := by decide +kernel
/-- The numbered chunks are all 64 of the result. -/
theorem rowOf_image : ∀ c : Fin 32, pieces.image (rowOf c) = Finset.range 64 := by decide +kernel
/-- A numbered chunk is one of the 64. -/
theorem rowOf_lt : ∀ c : Fin 32, ∀ n < 98, rowOf c n < 64 := by decide +kernel
/-- The own half's chunks are of the device's own block. -/
theorem org_own : ∀ c : Fin 32, ∀ n < 32, org c (rowOf c n) = c := by decide +kernel
/-- The own half's chunk produced `n`-th, within the block. -/
theorem rowOf_own : ∀ c : Fin 32, ∀ n < 32, rowOf c n = 32 * (c.val / 16) + ord c n ∧ ord c n < 32 := by decide +kernel
/-- Each half of the result is of a device of that half. -/
theorem org_half : ∀ c : Fin 32, ∀ r < 64, (org c r).val / 16 = r / 32 := by decide +kernel

/-! ## The order of events on a device -/

/-- An event of the body: a load started or waited for, the loaded chunk read, the cast buffer read (for nothing), a cast
    stored, a local copy started or waited for, a transfer sent, a DMA semaphore of a link waited for; and the renamings of
    what the device holds: chunk `n` as chunk `n'`, a received chunk split into the halves sent over y and z, the halves
    merged. -/
inductive Op where
  | ld (i : ℕ) | lw (i : ℕ) | rd (i : ℕ) | rv (i : ℕ) | st (i : ℕ) | cp (i : ℕ) | cw (i : ℕ)
  | snd (n : ℕ) | wt (n : ℕ) | mv (n n' : ℕ) | sp (j : ℕ) | mg (j : ℕ)
  deriving DecidableEq

/-- What a device holds at a point of its body, by numbers. -/
structure Stg where
  /-- chunks of the operand in hand -/
  src : Finset ℕ
  /-- slots of the load buffer in hand, with whatever contents -/
  vin : Finset ℕ
  /-- load semaphores at zero -/
  lsem : Finset ℕ
  /-- loads in flight -/
  lfl : Finset ℕ
  /-- chunks loaded and not yet cast -/
  got : Finset ℕ
  /-- slots of the cast buffer in hand, with whatever contents -/
  vout : Finset ℕ
  /-- chunks cast and not yet copied out -/
  cst : Finset ℕ
  /-- copy semaphores at zero -/
  csem : Finset ℕ
  /-- copies in flight -/
  cfl : Finset ℕ
  /-- own chunks of the result not yet written -/
  own : Finset ℕ
  /-- chunks of the result held with their final contents -/
  hold : Finset ℕ
  /-- transfers not yet sent -/
  snd : Finset ℕ
  /-- link semaphores not yet waited for -/
  pos : Finset ℕ
  /-- link semaphores whose units are due -/
  crd : Finset ℕ
  /-- link semaphores waited for -/
  done : Finset ℕ

/-- A chunk may be renamed: same rows, same share. -/
def renames (n n' : ℕ) : Bool := shareOf n = shareOf n' && decide (∀ c : Fin 32, rowOf c n = rowOf c n')

/-- Every transfer of the set is owed to a semaphore of a level above that of semaphore `n`. -/
def above (n : ℕ) (S : Finset ℕ) : Bool := decide (∀ n' ∈ S, recvOf n' < 98 ∧ lvl n < lvl (recvOf n'))

/-- The event is possible. -/
def ok : Op → Stg → Bool
  | .ld i, s => i ∈ s.src && i % 2 ∈ s.vin && i % 2 ∈ s.lsem && i ∉ s.lfl && decide (i < 32)
  | .lw i, s => i ∈ s.lfl && i ∉ s.src && i % 2 ∉ s.lsem && i ∉ s.got && decide (i < 32) && above (i % 2) s.snd
  | .rd i, s => decide (i ∈ s.got)
  | .rv i, s => decide (i % 2 ∈ s.vout)
  | .st i, s => i ∈ s.got && i % 2 ∉ s.vin && i % 2 ∈ s.vout && i ∉ s.cst && decide (i < 32)
  | .cp i, s => i ∈ s.cst && i ∈ s.own && i ∈ s.csem && i ∉ s.cfl && decide (i < 32)
  | .cw i, s => i ∈ s.cfl && i % 2 ∉ s.vout && i ∉ s.hold && i ∉ s.csem && decide (i < 32)
      && above (2 + i) s.snd
  | .snd n, s => n ∈ s.hold && n ∈ s.snd && n ∉ s.crd && n ∈ sends
  | .wt n, s => n ∈ s.pos && n ∈ s.crd && n ∉ s.hold && n ∉ s.done && decide (34 ≤ n) && decide (n < 98)
      && above n s.snd
  | .mv n n', s => n ∈ s.hold && n' ∉ s.hold && renames n n'
  | .sp j, s => 45 + j ∈ s.hold && 56 + j ∉ s.hold && 78 + j ∉ s.hold && decide (j < 7)
  | .mg j, s => 56 + j ∈ s.hold && 78 + j ∈ s.hold && 45 + j ∉ s.hold && decide (j < 7)

/-- What is held after the event. -/
def app : Op → Stg → Stg
  | .ld i, s => { s with src := s.src.erase i, vin := s.vin.erase (i % 2), lsem := s.lsem.erase (i % 2), lfl := insert i s.lfl }
  | .lw i, s => { s with lfl := s.lfl.erase i, src := insert i s.src, lsem := insert (i % 2) s.lsem, got := insert i s.got }
  | .rd _, s => s
  | .rv _, s => s
  | .st i, s => { s with got := s.got.erase i, vin := insert (i % 2) s.vin, vout := s.vout.erase (i % 2), cst := insert i s.cst }
  | .cp i, s => { s with cst := s.cst.erase i, own := s.own.erase i, csem := s.csem.erase i, cfl := insert i s.cfl }
  | .cw i, s => { s with cfl := s.cfl.erase i, vout := insert (i % 2) s.vout, hold := insert i s.hold, csem := insert i s.csem }
  | .snd n, s => { s with hold := s.hold.erase n, snd := s.snd.erase n, crd := insert n s.crd }
  | .wt n, s => { s with pos := s.pos.erase n, crd := s.crd.erase n, hold := insert n s.hold, done := insert n s.done }
  | .mv n n', s => { s with hold := insert n' (s.hold.erase n) }
  | .sp j, s => { s with hold := insert (56 + j) (insert (78 + j) (s.hold.erase (45 + j))) }
  | .mg j, s => { s with hold := insert (45 + j) ((s.hold.erase (56 + j)).erase (78 + j)) }

/-- The run of a list of events. -/
def run : List Op → Stg → Stg
  | [], s => s
  | o :: l, s => run l (app o s)

/-- Every event of the list is possible when its turn comes. -/
def okAll : List Op → Stg → Bool
  | [], _ => true
  | o :: l, s => ok o s && okAll l (app o s)

/-- Chunk `i < 11`: loaded (the next load started before), cast, copied out, sent over the x link. -/
def first (i : ℕ) : List Op := [.ld (i + 1), .lw i, .rd i, .rv i, .st i, .cp i, .cw i, .mv i (34 + i), .snd (34 + i)]
/-- Chunk `i ≥ 11`: loaded, cast, its copy started; the copy two chunks before waited for. -/
def later (i : ℕ) : List Op :=
  (if i < 31 then [.ld (i + 1)] else []) ++ [.lw i] ++ (if 13 ≤ i then [.cw (i - 2)] else []) ++ [.rd i, .rv i, .st i, .cp i]
/-- Received chunk `j` of the own quarter: forwarded over y and z; then one of the z (y) neighbour's chunks received and
    forwarded over y (z). -/
def relay (j : ℕ) : List Op :=
  [.wt (45 + j), .sp j, .snd (56 + j), .snd (78 + j)]
    ++ if j < 4 then [.wt (88 + j), .mv (88 + j) (63 + j), .snd (63 + j)]
       else [.wt (67 + j), .mv (67 + j) (81 + j), .snd (81 + j)]
/-- The waits from `lo` on. -/
def waits (lo len : ℕ) : List Op := (List.range len).map fun r => .wt (lo + r)

/-- The events of the body up to its return. -/
def body : List Op :=
  [.ld 0] ++ (List.range 11).flatMap first
    ++ [later 11, later 12, later 13, relay 0, later 14, later 15, later 16, relay 1, later 17, later 18, later 19, relay 2,
        later 20, later 21, later 22, relay 3, later 23, later 24, later 25, relay 4, later 26, later 27, later 28, relay 5,
        later 29, later 30, later 31, relay 6].flatten
    ++ waits 52 4 ++ waits 67 4 ++ waits 74 4 ++ waits 92 3 ++ waits 95 3 ++ [.cw 30, .cw 31]
    ++ waits 34 11 ++ waits 56 11 ++ waits 78 10

/-- The renamings after it: every chunk under its number among `pieces`. -/
def closing : List Op :=
  ((List.range 11).map fun i => Op.mv (34 + i) i) ++ ((List.range 7).map fun j => Op.mg j)
    ++ ((List.range 4).map fun r => Op.mv (63 + r) (88 + r)) ++ ((List.range 3).map fun r => Op.mv (85 + r) (71 + r))

/-- What a device holds after the barrier. -/
def start : Stg where
  src := Finset.range 32
  vin := {0, 1}
  lsem := {0, 1}
  lfl := ∅
  got := ∅
  vout := {0, 1}
  cst := ∅
  csem := Finset.range 32
  cfl := ∅
  own := Finset.range 32
  hold := ∅
  snd := sends
  pos := sends ∪ allRecvs
  crd := allRecvs
  done := ∅

/-- What a device holds at the end: everything back, every chunk of the result with its final contents. -/
def stop : Stg where
  src := Finset.range 32
  vin := {0, 1}
  lsem := {0, 1}
  lfl := ∅
  got := ∅
  vout := {0, 1}
  cst := ∅
  csem := Finset.range 32
  cfl := ∅
  own := ∅
  hold := pieces
  snd := ∅
  pos := ∅
  crd := ∅
  done := sends ∪ allRecvs

/-- Every event of the body is possible when its turn comes. -/
theorem body_ok : okAll (body ++ closing) start = true := by decide +kernel
/-- Two stages hold the same. -/
def same (s t : Stg) : Bool :=
  decide (s.src = t.src) && decide (s.vin = t.vin) && decide (s.lsem = t.lsem) && decide (s.lfl = t.lfl) && decide (s.got = t.got)
    && decide (s.vout = t.vout) && decide (s.cst = t.cst) && decide (s.csem = t.csem) && decide (s.cfl = t.cfl) && decide (s.own = t.own)
    && decide (s.hold = t.hold) && decide (s.snd = t.snd) && decide (s.pos = t.pos) && decide (s.crd = t.crd) && decide (s.done = t.done)

theorem eq_of_same {s t : Stg} (h : same s t = true) : s = t := by
  cases s; cases t
  simp only [same, Bool.and_eq_true, decide_eq_true_eq] at h
  simp only [Stg.mk.injEq]
  tauto

/-- The run of the body ends with everything back. -/
theorem body_run : run (body ++ closing) start = stop := eq_of_same (by decide +kernel)

end Cert.Plan
-- ==== Proof.KernelIdeal.Contents.lean ====
/-
What the kernel's buffers hold: the chunks of the operand and of the result, the slots of the two staging buffers, and the
contents that each transfer and each store leaves there.
-/
module

public import proofs.«01_k».proof.Proof.Plan
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ViewIndex
public import Idealize.ShloMosaic.Lib.Tactic

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

/-! ## The buffers -/

abbrev xM : Memref sig .tc .hbm S8192x1024 .f32 := Memref.whole main_arg0
abbrev oM : Memref sig .tc .hbm S16384x1024 .bf16 := Memref.whole main_v1
abbrev iM : Memref sig .tc .vmem S2x256x1024 .f32 := Memref.whole cc0_scratch0
abbrev cM : Memref sig .tc .vmem S2x256x1024 .bf16 := Memref.whole cc0_scratch1

abbrev xL (c : Dev nD) : Loc nD τ sig := (c : Thread nD τ).loc main_arg0
abbrev oL (c : Dev nD) : Loc nD τ sig := (c : Thread nD τ).loc main_v1
abbrev iL (c : Dev nD) : Loc nD τ sig := (c : Thread nD τ).loc cc0_scratch0
abbrev cL (c : Dev nD) : Loc nD τ sig := (c : Thread nD τ).loc cc0_scratch1

/-- The operand's block on device `c` at launch. -/
abbrev X (c : Dev nD) : S8192x1024.Idx → Elt F .f32 := m (xL c)
/-- The result buffer's contents on device `c` at launch. -/
abbrev Y (c : Dev nD) : S16384x1024.Idx → Elt F .bf16 := m (oL c)

/-- The index of the operand's block at row `r` (taken in range), column `k`. -/
def xIdx (r : ℕ) (k : Fin 1024) : S8192x1024.Idx := fun a => match a with
  | ⟨0, _⟩ => ⟨r % 8192, Nat.mod_lt _ (by decide)⟩
  | ⟨1, _⟩ => k

/-- The rows of a chunk of the operand's block, of a chunk of the result, and a slot of a staging buffer. -/
def xRows (r : ℕ) : Finset S8192x1024.Idx := Finset.univ.filter fun i => (i 0).val / 256 = r
def oRows (r : ℕ) : Finset S16384x1024.Idx := Finset.univ.filter fun i => (i 0).val / 256 = r
def slot (s : ℕ) : Finset S2x256x1024.Idx := Finset.univ.filter fun i => (i 0).val = s

/-- One value, rounded to bf16. -/
def cast1 (v : Elt F .f32) : Elt F .bf16 := FloatOps.truncf .bf16 bitsLt_bf16_f32 v

/-- The result on device `c`: row by row the rounded block of the device the row is of. -/
def G (c : Dev nD) : S16384x1024.Idx → Elt F .bf16 :=
  fun i => cast1 (X m (Plan.org c ((i 0).val / 256)) (xIdx (i 0).val (i 1)))
/-- The load buffer with chunk `i` of device `c` in its slot. -/
def vinF (c : Dev nD) (i : ℕ) : S2x256x1024.Idx → Elt F .f32 :=
  fun j => X m c (xIdx (256 * Plan.ord c i + (j 1).val) (j 2))
/-- The cast buffer with chunk `i` of device `c` in its slot. -/
def voutF (c : Dev nD) (i : ℕ) : S2x256x1024.Idx → Elt F .bf16 :=
  fun j => cast1 (X m c (xIdx (256 * Plan.ord c i + (j 1).val) (j 2)))
/-- Chunk `i` of device `c` as a load of its slot reads it. -/
def xval (c : Dev nD) (i : ℕ) : Vec F S1x256x1024 .f32 :=
  fun j => X m c (xIdx (256 * Plan.ord c i + (j 1).val) (j 2))

/-! ## The views -/

abbrev xV {off : Fin 2 → ℕ} (inb : ∀ a, off a + S256x1024.size a ≤ S8192x1024.size a) : Memref sig .tc .hbm S256x1024 .f32 :=
  xM.slice (Rect.unit (s := S8192x1024) off S256x1024.size inb) (fun _ => rfl)
abbrev oV {off : Fin 2 → ℕ} (inb : ∀ a, off a + S256x1024.size a ≤ S16384x1024.size a) : Memref sig .tc .hbm S256x1024 .bf16 :=
  oM.slice (Rect.unit (s := S16384x1024) off S256x1024.size inb) (fun _ => rfl)
abbrev slotR {off : Fin 3 → ℕ} (inb : ∀ a, off a + S1x256x1024.size a ≤ S2x256x1024.size a) : Rect S2x256x1024 :=
  Rect.unit (s := S2x256x1024) off S1x256x1024.size inb
abbrev iV {off : Fin 3 → ℕ} (inb : ∀ a, off a + S1x256x1024.size a ≤ S2x256x1024.size a) : Memref sig .tc .vmem S256x1024 .f32 :=
  (iM.slice (slotR inb) (fun _ => rfl)).squeeze S256x1024 squeezes_S1x256x1024_S256x1024
abbrev cV {off : Fin 3 → ℕ} (inb : ∀ a, off a + S1x256x1024.size a ≤ S2x256x1024.size a) : Memref sig .tc .vmem S256x1024 .bf16 :=
  (cM.slice (slotR inb) (fun _ => rfl)).squeeze S256x1024 squeezes_S1x256x1024_S256x1024

theorem mem_unit_rows {n : ℕ} {i : (⟨2, ![n, 1024]⟩ : Shape).Idx} {off : Fin 2 → ℕ}
    {inb : ∀ a, off a + S256x1024.size a ≤ (⟨2, ![n, 1024]⟩ : Shape).size a} {r : ℕ} (h : off = ![256 * r, 0]) :
    i ∈ (Rect.unit (s := ⟨2, ![n, 1024]⟩) off S256x1024.size inb).set ↔ (i 0).val / 256 = r := by
  subst h
  rw [Rect.mem_set_unit]
  have h1 : (i 1).val < 1024 := (i 1).isLt
  constructor
  · intro h
    have := h 0
    simp at this
    omega
  · intro h a
    match a with
    | ⟨0, _⟩ => simp; omega
    | ⟨1, _⟩ => simp; omega

theorem mem_unit_slot {i : S2x256x1024.Idx} {off : Fin 3 → ℕ}
    {inb : ∀ a, off a + S1x256x1024.size a ≤ S2x256x1024.size a} {s : ℕ} (h : off = ![s, 0, 0]) :
    i ∈ (slotR inb).set ↔ (i 0).val = s := by
  subst h
  rw [Rect.mem_set_unit]
  have h1 : (i 1).val < 256 := (i 1).isLt
  have h2 : (i 2).val < 1024 := (i 2).isLt
  constructor
  · intro h
    have := h 0
    simp at this
    omega
  · intro h a
    match a with
    | ⟨0, _⟩ => simp; omega
    | ⟨1, _⟩ => simp; omega
    | ⟨2, _⟩ => simp; omega

theorem xV_set {off : Fin 2 → ℕ} {inb : ∀ a, off a + S256x1024.size a ≤ S8192x1024.size a} {r : ℕ} (h : off = ![256 * r, 0]) :
    (xV inb).view.set = xRows r := by
  ext i
  rw [xRows, Finset.mem_filter, and_iff_right (Finset.mem_univ _)]
  show i ∈ ((View.whole main_arg0).slice _).set ↔ _
  rw [View.set_slice_whole]
  exact mem_unit_rows h
theorem oV_set {off : Fin 2 → ℕ} {inb : ∀ a, off a + S256x1024.size a ≤ S16384x1024.size a} {r : ℕ} (h : off = ![256 * r, 0]) :
    (oV inb).view.set = oRows r := by
  ext i
  rw [oRows, Finset.mem_filter, and_iff_right (Finset.mem_univ _)]
  show i ∈ ((View.whole main_v1).slice _).set ↔ _
  rw [View.set_slice_whole]
  exact mem_unit_rows h
theorem iA_set {off : Fin 3 → ℕ} {inb : ∀ a, off a + S1x256x1024.size a ≤ S2x256x1024.size a} {s : ℕ} (h : off = ![s, 0, 0]) :
    (iM.access (slotR inb)).set = slot s := by
  ext i
  rw [slot, Finset.mem_filter, and_iff_right (Finset.mem_univ _)]
  show i ∈ ((View.whole cc0_scratch0).slice _).set ↔ _
  rw [View.set_slice_whole]
  exact mem_unit_slot h
theorem cA_set {off : Fin 3 → ℕ} {inb : ∀ a, off a + S1x256x1024.size a ≤ S2x256x1024.size a} {s : ℕ} (h : off = ![s, 0, 0]) :
    (cM.access (slotR inb)).set = slot s := by
  ext i
  rw [slot, Finset.mem_filter, and_iff_right (Finset.mem_univ _)]
  show i ∈ ((View.whole cc0_scratch1).slice _).set ↔ _
  rw [View.set_slice_whole]
  exact mem_unit_slot h
theorem iV_set {off : Fin 3 → ℕ} {inb : ∀ a, off a + S1x256x1024.size a ≤ S2x256x1024.size a} {s : ℕ} (h : off = ![s, 0, 0]) :
    (iV inb).view.set = slot s := by
  rw [← iA_set (inb := inb) h]
  exact View.set_reshape _ _
theorem cV_set {off : Fin 3 → ℕ} {inb : ∀ a, off a + S1x256x1024.size a ≤ S2x256x1024.size a} {s : ℕ} (h : off = ![s, 0, 0]) :
    (cV inb).view.set = slot s := by
  rw [← cA_set (inb := inb) h]
  exact View.set_reshape _ _

/-! ## Where a view's elements lie -/

/-- A 256×1024 index as one of the slot's rectangle. -/
abbrev up (x : S256x1024.Idx) : S1x256x1024.Idx := Fin.cons ⟨0, Nat.one_pos⟩ x

theorem reshape_up (x : S256x1024.Idx) (h : S256x1024.numel = S1x256x1024.numel) : Shape.reshapeEquiv h x = up x := by
  have := shapeCast_dropUnit_apply ![256, 1024] (fun j : S1x256x1024.Idx => j) shapeCasts_S1x256x1024_S256x1024 x
  exact this

theorem unit_emb_val {s : Shape} {off size : Fin s.rank → ℕ} (inb : ∀ a, off a + size a ≤ s.size a)
    (j : (Rect.unit off size inb).shape.Idx) (a : Fin s.rank) : ((Rect.unit off size inb).emb j a : ℕ) = off a + j a := by
  rw [Rect.emb_apply]; show off a + 1 * (j a : ℕ) = _; omega

theorem xIdx_congr {r r' : ℕ} {k k' : Fin 1024} (h : r % 8192 = r' % 8192) (hk : k.val = k'.val) : xIdx r k = xIdx r' k' := by
  funext a
  match a with
  | ⟨0, _⟩ => exact Fin.ext h
  | ⟨1, _⟩ => exact Fin.ext hk

theorem iV_emb {off : Fin 3 → ℕ} (inb : ∀ a, off a + S1x256x1024.size a ≤ S2x256x1024.size a) (x : S256x1024.Idx) :
    (iV inb).view.emb x = (slotR inb).emb (up x) :=
  (congrArg (fun y => (slotR inb).emb y) (reshape_up x squeezes_S1x256x1024_S256x1024.numel_eq) :)
theorem cV_emb {off : Fin 3 → ℕ} (inb : ∀ a, off a + S1x256x1024.size a ≤ S2x256x1024.size a) (x : S256x1024.Idx) :
    (cV inb).view.emb x = (slotR inb).emb (up x) :=
  (congrArg (fun y => (slotR inb).emb y) (reshape_up x squeezes_S1x256x1024_S256x1024.numel_eq) :)

theorem slot_emb_1 {off : Fin 3 → ℕ} (inb : ∀ a, off a + S1x256x1024.size a ≤ S2x256x1024.size a) {s : ℕ} (h : off = ![s, 0, 0])
    (y : S1x256x1024.Idx) : ((slotR inb).emb y 1).val = (y 1).val := by
  rw [unit_emb_val]; subst h; simp
theorem slot_emb_2 {off : Fin 3 → ℕ} (inb : ∀ a, off a + S1x256x1024.size a ≤ S2x256x1024.size a) {s : ℕ} (h : off = ![s, 0, 0])
    (y : S1x256x1024.Idx) : ((slotR inb).emb y 2).val = (y 2).val := by
  rw [unit_emb_val]; subst h; simp
theorem rows_emb {n : ℕ} {off : Fin 2 → ℕ} {r : ℕ} (inb : ∀ a, off a + S256x1024.size a ≤ (⟨2, ![n, 1024]⟩ : Shape).size a) (h : off = ![256 * r, 0])
    (x : S256x1024.Idx) : ((Rect.unit (s := ⟨2, ![n, 1024]⟩) off S256x1024.size inb).emb x 0).val = 256 * r + (x 0).val
      ∧ ((Rect.unit (s := ⟨2, ![n, 1024]⟩) off S256x1024.size inb).emb x 1).val = (x 1).val := by
  constructor <;> (rw [unit_emb_val]; subst h; simp)

/-! ## The contents that the steps leave -/

/-- A load of chunk `i` leaves the chunk in its slot. -/
theorem load_agrees (c : Dev nD) (i : ℕ) {off : Fin 2 → ℕ} (inb : ∀ a, off a + S256x1024.size a ≤ S8192x1024.size a)
    (ho : off = ![256 * Plan.ord c i, 0]) {off' : Fin 3 → ℕ} (inb' : ∀ a, off' a + S1x256x1024.size a ≤ S2x256x1024.size a)
    {s : ℕ} (ho' : off' = ![s, 0, 0]) (f : S2x256x1024.Idx → Elt F .f32) :
    ∀ j ∈ slot s, (iV inb').view.write (Elt F) f ((xV inb).view.read (Elt F) (X m c)) Finset.univ j = vinF m c i j := by
  rw [← iV_set (inb := inb') ho']
  intro j hj
  obtain ⟨x, -, rfl⟩ := Finset.mem_map.mp hj
  rw [View.write_emb_of_mem _ _ (Finset.mem_univ _), iV_emb]
  show X m c ((Rect.unit (s := S8192x1024) _ S256x1024.size inb).emb x) = X m c _
  congr 1
  have h := rows_emb inb ho x
  have h1 := slot_emb_1 inb' ho' (up x)
  have h2 := slot_emb_2 inb' ho' (up x)
  funext a
  match a with
  | ⟨0, _⟩ =>
    refine Fin.ext (h.1.trans ?_)
    have := ((Rect.unit (s := S8192x1024) _ S256x1024.size inb).emb x 0).isLt
    rw [h.1] at this
    show _ = (256 * Plan.ord c i + ((slotR inb').emb (up x) 1).val) % 8192
    rw [h1]
    exact (Nat.mod_eq_of_lt this).symm
  | ⟨1, _⟩ => exact Fin.ext (h.2.trans h2.symm)

/-- A load of the slot reads the chunk. -/
theorem load_reads (c : Dev nD) (i : ℕ) {off : Fin 3 → ℕ} (inb : ∀ a, off a + S1x256x1024.size a ≤ S2x256x1024.size a)
    {s : ℕ} (ho : off = ![s, 0, 0]) : (iM.access (slotR inb)).read (Elt F) (vinF m c i) = xval m c i := by
  funext y
  show X m c _ = X m c _
  congr 1
  exact xIdx_congr (by rw [show ((iM.access (slotR inb)).emb y 1).val = (y 1).val from slot_emb_1 inb ho y]) (slot_emb_2 inb ho y)

/-- The stored value: the chunk, rounded. -/
theorem pay_apply (c : Dev nD) (i : ℕ) (y : S1x256x1024.Idx) :
    k0_pay1 (xval m c i) y = cast1 (X m c (xIdx (256 * Plan.ord c i + (y 1).val) (y 2))) := by
  unfold k0_pay1
  refine (shapeCast_addUnit_apply ![256, 1024] _ shapeCasts_S256x1024_S1x256x1024 y).trans ?_
  show cast1 _ = cast1 _
  congr 1
  exact shapeCast_dropUnit_apply ![256, 1024] (xval m c i) shapeCasts_S1x256x1024_S256x1024 _

/-- The store leaves the rounded chunk in its slot. -/
theorem store_agrees (c : Dev nD) (i : ℕ) {off : Fin 3 → ℕ} (inb : ∀ a, off a + S1x256x1024.size a ≤ S2x256x1024.size a)
    {s : ℕ} (ho : off = ![s, 0, 0]) (f : S2x256x1024.Idx → Elt F .bf16) :
    ∀ j ∈ slot s, (cM.access (slotR inb)).write (Elt F) f (k0_pay1 (xval m c i)) Finset.univ j = voutF m c i j := by
  rw [← cA_set (inb := inb) ho]
  intro j hj
  obtain ⟨x, -, rfl⟩ := Finset.mem_map.mp hj
  rw [View.write_emb_of_mem _ _ (Finset.mem_univ _)]
  refine (pay_apply m c i x).trans ?_
  show cast1 (X m c _) = cast1 (X m c _)
  congr 2
  exact (xIdx_congr (by rw [show ((cM.access (slotR inb)).emb x 1).val = (x 1).val from slot_emb_1 inb ho x]) (slot_emb_2 inb ho x)).symm

/-- The copy of chunk `i` to its rows of the result leaves the final contents there. -/
theorem copy_agrees (c : Dev nD) (i : ℕ) (hi : i < 32) {off : Fin 2 → ℕ} (inb : ∀ a, off a + S256x1024.size a ≤ S16384x1024.size a)
    (ho : off = ![256 * Plan.rowOf c i, 0]) {off' : Fin 3 → ℕ} (inb' : ∀ a, off' a + S1x256x1024.size a ≤ S2x256x1024.size a)
    {s : ℕ} (ho' : off' = ![s, 0, 0]) (f : S16384x1024.Idx → Elt F .bf16) :
    ∀ j ∈ oRows (Plan.rowOf c i), (oV inb).view.write (Elt F) f ((cV inb').view.read (Elt F) (voutF m c i)) Finset.univ j = G m c j := by
  rw [← oV_set (inb := inb) ho]
  intro j hj
  obtain ⟨x, -, rfl⟩ := Finset.mem_map.mp hj
  rw [View.write_emb_of_mem _ _ (Finset.mem_univ _)]
  have h := rows_emb inb ho x
  have h1 := slot_emb_1 inb' ho' (up x)
  have h2 := slot_emb_2 inb' ho' (up x)
  have hx : (x 0).val < 256 := (x 0).isLt
  have hr : ((oV inb).view.emb x 0).val = 256 * Plan.rowOf c i + (x 0).val := h.1
  have hq : ((oV inb).view.emb x 0).val / 256 = Plan.rowOf c i := by rw [hr]; omega
  show voutF m c i ((cV inb').view.emb x) = G m c _
  rw [cV_emb]
  unfold voutF G
  rw [hq, Plan.org_own c i hi]
  congr 2
  obtain ⟨e, -⟩ := Plan.rowOf_own c i hi
  refine xIdx_congr ?_ (h2.trans h.2.symm)
  rw [hr, h1, e]
  show (256 * Plan.ord c i + (x 0).val) % 8192 = _
  omega

/-- A transfer between the same rows of two devices' results, the rows being of the same device's block for both, leaves the
    final contents there. -/
theorem send_agrees (c c' : Dev nD) (r : ℕ) (hc : Plan.org c' r = Plan.org c r)
    {off off' : Fin 2 → ℕ} (inb : ∀ a, off a + S256x1024.size a ≤ S16384x1024.size a) (inb' : ∀ a, off' a + S256x1024.size a ≤ S16384x1024.size a)
    (ho : off = ![256 * r, 0]) (ho' : off' = ![256 * r, 0]) (f : S16384x1024.Idx → Elt F .bf16) :
    ∀ j ∈ oRows r, (oV inb').view.write (Elt F) f ((oV inb).view.read (Elt F) (G m c)) Finset.univ j = G m c' j := by
  rw [← oV_set (inb := inb') ho']
  intro j hj
  obtain ⟨x, -, rfl⟩ := Finset.mem_map.mp hj
  rw [View.write_emb_of_mem _ _ (Finset.mem_univ _)]
  subst ho'
  subst ho
  have h := rows_emb inb rfl x
  have hx : (x 0).val < 256 := (x 0).isLt
  have hr : ((oV inb).view.emb x 0).val = 256 * r + (x 0).val := h.1
  have hq : ((oV inb).view.emb x 0).val / 256 = r := by rw [hr]; omega
  show G m c ((oV inb).view.emb x) = G m c' ((oV inb).view.emb x)
  unfold G
  rw [hq, hc]

end Cert.KernelIdealRun
-- ==== Proof.KernelIdeal.Res.lean ====
/-
What a device holds at a point of its body, as resources: the cells of the semaphores over which the devices transfer and
what each hands over, what a device owes, and the pieces named by the plan.
-/
module

public import proofs.«01_k».proof.Proof.KernelIdeal.Contents

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the algebra of the transfers' rounds lies. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

abbrev 𝒱₀ : Variants := Variants.none

variable (m : (ℓ : Loc nD τ sig) → Buf (Elt F) ℓ)

/-! ## The cells -/

/-- The barrier semaphore. -/
abbrev bar : Sem sig := (SemArray.scalar (sig.barrier 0 rfl) : Sems sig S_).sem
/-- The DMA semaphore numbered `n`. -/
def dq (n : ℕ) : DmaSem sig := Fin.ofNat 98 n

theorem dq_val {n : ℕ} (h : n < 98) : (dq n).val = n := Nat.mod_eq_of_lt h

abbrev cellB (c : Dev nD) : GSem nD τ sig := ((c : Thread nD τ), .reg bar)
abbrev cellD (c : Dev nD) (n : ℕ) : GSem nD τ sig := ((c : Thread nD τ), .dma (dq n))

/-- What the wait for a chunk of the result takes, and for a chunk of the operand. -/
def N : ℕ := (oV (off := ![0, 0]) (by decide)).view.dmaCredit
def NI : ℕ := (iV (off := ![0, 0, 0]) (by decide)).view.dmaCredit
theorem N_pos : 0 < N := View.dmaCredit_pos _ (by decide)
theorem NI_pos : 0 < NI := View.dmaCredit_pos _ (by decide)

/-- The share at which the transfer named `n` reads its source. -/
def shr (n : ℕ) : PosShare TreeShare :=
  match Plan.shareOf n with
  | 0 => fullShare
  | 1 => PosShare.left fullShare
  | 2 => PosShare.right fullShare

/-- The chunk numbered `n` of device `c`'s result, with its final contents. -/
def pay (c : Dev nD) (n : ℕ) : sProp 𝕄 := oL c ↦[oRows (Plan.rowOf c n)]{shr n} G m c
/-- The chunk numbered `n` of device `c`'s result, as at launch. -/
def raw (c : Dev nD) (n : ℕ) : sProp 𝕄 := oL c ↦[oRows (Plan.rowOf c n)]{fullShare} Y m c
/-- What the neighbour over link `d` hands device `c` with its signal: the chunks that `c` sends it. -/
def barPay (d : Fin 3) (c : Dev nD) : sProp 𝕄 := bigSep (Plan.recvs d) (raw m (Plan.nb d c))

instance pay_storable (c : Dev nD) (n : ℕ) : BI.Storable (upEmb : UEmb _ 𝕄) (pay (F := F) m c n) := by unfold pay; infer_instance
instance raw_storable (c : Dev nD) (n : ℕ) : BI.Storable (upEmb : UEmb _ 𝕄) (raw (F := F) m c n) := by unfold raw; infer_instance
instance barPay_storable (d : Fin 3) (c : Dev nD) : BI.Storable (upEmb : UEmb _ 𝕄) (barPay (F := F) m d c) := by unfold barPay; infer_instance

/-- The one round of every cell: the barrier's has a duty per neighbour, a transfer's semaphore one. -/
def Rd : Rounds.Schedule (GSem nD τ sig) (Fin 3) 𝕄 where
  duties g r := if r = 0 ∧ g.1.2 = .tc then (match g.2 with | .reg _ => Finset.univ | .dma q => if 34 ≤ q.val then {0} else ∅) else ∅
  unitless _ := False
  amount g _ _ := match g.2 with | .reg _ => 1 | .dma _ => N
  payload g _ d := match g.2 with | .reg _ => barPay m d g.1.1 | .dma q => pay m g.1.1 q.val
  amount_pos g _ _ _ := by
    rcases g with ⟨t, (s | q)⟩
    · exact Nat.one_pos
    · exact N_pos

instance Rd_payload_storable (g : GSem nD τ sig) (r : ℕ) (d : Fin 3) :
    BI.Storable (upEmb : UEmb _ 𝕄) ((Rd (F := F) m).payload g r d) := by
  rcases g with ⟨t, (s | q)⟩
  · exact barPay_storable m d t.1
  · exact pay_storable m t.1 q.val

theorem duties_bar (c : Dev nD) : (Rd (F := F) m).duties (cellB c) 0 = Finset.univ := by
  dsimp only [Rd]; exact if_pos ⟨rfl, rfl⟩
theorem duties_dma (c : Dev nD) {n : ℕ} (h : 34 ≤ n) (h' : n < 98) : (Rd (F := F) m).duties (cellD c n) 0 = {0} := by
  dsimp only [Rd]
  rw [if_pos ⟨rfl, rfl⟩, dq_val h', if_pos h]
theorem duties_later (g : GSem nD τ sig) : ∀ r, 1 ≤ r → (Rd (F := F) m).duties g r = ∅ :=
  fun r hr => by dsimp only [Rd]; exact if_neg fun h => by omega
theorem payload_dma (c : Dev nD) {n : ℕ} (h' : n < 98) (d : Fin 3) : (Rd (F := F) m).payload (cellD c n) 0 d = pay m c n := by
  show pay m c (dq n).val = _
  rw [dq_val h']
theorem expect_bar (c : Dev nD) : (Rd (F := F) m).expect (cellB c) 0 = 3 := by
  unfold Schedule.expect Schedule.amountOf
  rw [duties_bar]
  rfl
theorem expect_dma (c : Dev nD) {n : ℕ} (h : 34 ≤ n) (h' : n < 98) : (Rd (F := F) m).expect (cellD c n) 0 = N := by
  unfold Schedule.expect Schedule.amountOf
  rw [duties_dma m c h h', Finset.sum_singleton]
  rfl
theorem rest_dma (c : Dev nD) {n : ℕ} (h : 34 ≤ n) (h' : n < 98) :
    bigSep ((Rd (F := F) m).duties (cellD c n) 0 \ ∅) (fun d => (Rd (F := F) m).payload (cellD c n) 0 d) = pay m c n := by
  rw [Finset.sdiff_empty, duties_dma m c h h', bigSep_singleton, payload_dma m c h']

/-! ## The cells' records, the levels, what is owed -/

/-- The cells by number: a device's barrier, then its transfers' semaphores. -/
def kcell (ck : Dev nD × Fin 65) : GSem nD τ sig := ((ck.1 : Thread nD τ), if ck.2 = 0 then .reg bar else .dma (dq (33 + ck.2.val)))

/-- The cells' invariants, and that every one of them stands at its round. -/
def recs : sProp 𝕄 :=
  iprop(∃ K : Dev nD × Fin 65 → ℕ, bigSep Finset.univ fun ck => iprop(cellInv ER (Rd m) (K ck) (kcell ck) ∗ reached ER (kcell ck) 0))

instance recs_persistent : BI.Persistent (recs (F := F) m) := by unfold recs; infer_instance

theorem recs_at (ck : Dev nD × Fin 65) :
    (recs m : sProp 𝕄) ⊢ iprop(∃ κ, cellInv ER (Rd m) κ (kcell ck) ∗ reached ER (kcell ck) 0) := by
  unfold recs
  iintro ⟨%K, H⟩
  iexists (K ck)
  have h : (bigSep Finset.univ (fun ck => iprop(cellInv ER (Rd m) (K ck) (kcell ck) ∗ reached ER (kcell ck) 0)) : sProp 𝕄)
      ⊢ iprop(cellInv ER (Rd m) (K ck) (kcell ck) ∗ reached ER (kcell ck) 0) := bigSep_elim (Finset.mem_univ ck)
  iapply h $$ H

theorem kcell_bar (c : Dev nD) : kcell (c, 0) = cellB c := rfl
theorem kcell_dma (c : Dev nD) {n : ℕ} (h : 34 ≤ n) (h' : n < 98) : kcell (c, ⟨n - 33, by omega⟩) = cellD c n := by
  unfold kcell
  rw [if_neg (fun h => by have := congrArg Fin.val h; simp at this; omega)]
  show ((c : Thread nD τ), SemLoc.dma (dq (33 + (n - 33)))) = _
  rw [Nat.add_sub_cancel' (by omega)]

theorem recs_bar (c : Dev nD) : (recs m : sProp 𝕄) ⊢ iprop(∃ κ, cellInv ER (Rd m) κ (cellB c) ∗ reached ER (cellB c) 0) :=
  recs_at m (c, 0)
theorem recs_dma (c : Dev nD) {n : ℕ} (h : 34 ≤ n) (h' : n < 98) :
    (recs m : sProp 𝕄) ⊢ iprop(∃ κ, cellInv ER (Rd m) κ (cellD c n) ∗ reached ER (cellD c n) 0) := by
  have := recs_at (F := F) m (c, ⟨n - 33, by omega⟩)
  rwa [kcell_dma c h h'] at this

/-- Every semaphore of a TensorCore is waited for at one index. -/
def L (g : GSem nD τ sig) : Finset Unit := if g.1.2 = .tc then {()} else ∅
/-- The levels: the barrier's 1, a DMA semaphore's from the plan. -/
def lv (g : GSem nD τ sig) (_ : Unit) : ℕ := match g.2 with | .reg _ => 1 | .dma q => Plan.lvl q.val

theorem L_of_ne (g : GSem nD τ sig) (h : g.1.2 ≠ .tc) : L g = ∅ := if_neg h
theorem L_tc (c : Dev nD) (sm : SemLoc sig) : L ((c : Thread nD τ), sm) = {()} := if_pos rfl

/-- What the transfers not yet sent owe their receivers. -/
def owing (c : Dev nD) (S : Finset ℕ) : CellTallies nD τ sig Unit := ∑ n ∈ S, tallyAt (cellD (Plan.peer n c) (Plan.recvOf n)) () N

theorem owing_pos {c : Dev nD} {S : Finset ℕ} {g : GSem nD τ sig} {u : Unit} (h : 0 < owing c S g u) :
    ∃ n ∈ S, g = cellD (Plan.peer n c) (Plan.recvOf n) := by
  unfold owing at h
  rw [Finset.sum_apply, Finsupp.finset_sum_apply] at h
  obtain ⟨n, hn, hp⟩ := Finset.exists_ne_zero_of_sum_ne_zero h.ne'
  refine ⟨n, hn, ?_⟩
  rw [tallyAt_apply] at hp
  by_contra hg
  rw [if_neg (fun h' => hg h'.1)] at hp
  exact hp rfl

theorem mayWait_above (c : Dev nD) (sm : SemLoc sig) (S : Finset ℕ)
    (h : ∀ n ∈ S, Plan.recvOf n < 98 ∧ lv ((c : Thread nD τ), sm) () < Plan.lvl (Plan.recvOf n)) :
    (levAts L lv : sProp 𝕄) ⊢ MayWait (c : Thread nD τ) sm () (owing c S) :=
  MayOwe.of_cut (L := L) (lev := lv) (lv ((c : Thread nD τ), sm) ())
    (fun p hp => by rw [Finset.mem_singleton.mp hp, L_tc]; exact Finset.mem_singleton_self _)
    (fun g u hg => by obtain ⟨n, -, rfl⟩ := owing_pos hg; exact Finset.mem_singleton_self _)
    (fun p hp => by rw [Finset.mem_singleton.mp hp])
    (fun g u hg => by
      obtain ⟨n, hn, rfl⟩ := owing_pos hg
      show _ < Plan.lvl (dq (Plan.recvOf n)).val
      rw [dq_val (h n hn).1]
      exact (h n hn).2)

theorem mayWait_dma (c : Dev nD) {n : ℕ} (hn : n < 98) {S : Finset ℕ} (h : Plan.above n S = true) :
    (levAts L lv : sProp 𝕄) ⊢ MayWait (c : Thread nD τ) (.dma (dq n)) () (owing c S) :=
  mayWait_above c _ S fun n' hn' => by
    have := of_decide_eq_true h n' hn'
    refine ⟨this.1, ?_⟩
    show Plan.lvl (dq n).val < _
    rw [dq_val hn]
    exact this.2

/-! ## What a device holds -/

/-- The kinds of things that a device holds by number, as the plan lists them. -/
inductive Kind where
  | src | vin | lsem | lfl | got | vout | cst | csem | cfl | own | hold | snd | pos | crd | done
  deriving DecidableEq

instance : Fintype Kind :=
  ⟨{.src, .vin, .lsem, .lfl, .got, .vout, .cst, .csem, .cfl, .own, .hold, .snd, .pos, .crd, .done}, fun k => by cases k <;> decide⟩

/-- The numbers held of a kind. -/
def nums (s : Plan.Stg) : Kind → Finset ℕ
  | .src => s.src | .vin => s.vin | .lsem => s.lsem | .lfl => s.lfl | .got => s.got | .vout => s.vout | .cst => s.cst
  | .csem => s.csem | .cfl => s.cfl | .own => s.own | .hold => s.hold | .snd => s.snd | .pos => s.pos | .crd => s.crd
  | .done => s.done

/-- Chunk `i` of the operand's block. -/
def srcP (c : Dev nD) (i : ℕ) : sProp 𝕄 := xL c ↦[xRows (Plan.ord c i)]{fullShare} X m c
/-- A slot of the load buffer, of the cast buffer, with whatever contents. -/
def vinP (c : Dev nD) (s : ℕ) : sProp 𝕄 := iprop(∃ f, iL c ↦[slot s]{fullShare} f)
def voutP (c : Dev nD) (s : ℕ) : sProp 𝕄 := iprop(∃ f, cL c ↦[slot s]{fullShare} f)
/-- Chunk `i` in its slot of the load buffer, of the cast buffer. -/
def gotP (c : Dev nD) (i : ℕ) : sProp 𝕄 := iL c ↦[slot (i % 2)]{fullShare} vinF m c i
def cstP (c : Dev nD) (i : ℕ) : sProp 𝕄 := cL c ↦[slot (i % 2)]{fullShare} voutF m c i

/-- The thing of a kind with a number. -/
abbrev held (c : Dev nD) : Kind → ℕ → sProp 𝕄
  | .src, i => srcP m c i
  | .vin, s => vinP c s
  | .lsem, s => semVal (cellD c s) 0
  | .lfl, i => Transfers.Flight countersEmb (c : Thread nD τ) (.dma (dq (i % 2))) () NI iprop(gotP m c i ∗ srcP m c i)
  | .got, i => gotP m c i
  | .vout, s => voutP c s
  | .cst, i => cstP m c i
  | .csem, i => semVal (cellD c (2 + i)) 0
  | .cfl, i => Transfers.Flight countersEmb (c : Thread nD τ) (.dma (dq (2 + i))) () N iprop(pay m c i ∗ cstP m c i)
  | .own, i => raw m c i
  | .hold, n => pay m c n
  | .snd, n => iprop(dutyTok ER (cellD c n) 0 0 ∗ dutyTok ER (cellD (Plan.peer n c) (Plan.recvOf n)) 0 0 ∗ raw m (Plan.peer n c) (Plan.recvOf n))
  | .pos, n => atPos ER (cellD c n) 0 ∅ 0
  | .crd, n => cred (tallyAt (cellD c n) () N)
  | .done, n => semVal (cellD c n) 0

/-- All things held, by kind. -/
def All (c : Dev nD) (f : Kind → Finset ℕ) : sProp 𝕄 := bigSep Finset.univ fun k => bigSep (f k) (held m c k)

def del (f : Kind → Finset ℕ) (k : Kind) (i : ℕ) : Kind → Finset ℕ := Function.update f k ((f k).erase i)
def ins (f : Kind → Finset ℕ) (k : Kind) (i : ℕ) : Kind → Finset ℕ := Function.update f k (insert i (f k))

theorem All_split (c : Dev nD) (f : Kind → Finset ℕ) (k : Kind) :
    All m c f = iprop(bigSep (f k) (held m c k) ∗ bigSep (Finset.univ.erase k) fun k => bigSep (f k) (held m c k)) :=
  bigSep_univ_split k

theorem All_update (c : Dev nD) (f : Kind → Finset ℕ) (k : Kind) (S : Finset ℕ) :
    All m c (Function.update f k S) = iprop(bigSep S (held m c k) ∗ bigSep (Finset.univ.erase k) fun k => bigSep (f k) (held m c k)) := by
  rw [All_split m c _ k, Function.update_self]
  congr 1
  exact bigSep_congr fun k' hk' => by rw [Function.update_of_ne (Finset.ne_of_mem_erase hk')]

/-- One thing taken out. -/
theorem All_del (c : Dev nD) {f : Kind → Finset ℕ} (k : Kind) (i : ℕ) (h : i ∈ f k) :
    All m c f ⊢ iprop(held m c k i ∗ All m c (del f k i)) := by
  have e : (bigSep (f k) (held m c k) : sProp 𝕄) = iprop(held m c k i ∗ bigSep ((f k).erase i) (held m c k)) := bigSep_erase h
  rw [del, All_update, All_split m c f k, e]
  iintro ⟨⟨H1, H2⟩, H3⟩
  isplitl [H1]; · iexact H1
  isplitl [H2] <;> iassumption

/-- One thing put in. -/
theorem All_ins (c : Dev nD) {f : Kind → Finset ℕ} (k : Kind) (i : ℕ) (h : i ∉ f k) :
    iprop(held m c k i ∗ All m c f) ⊢ All m c (ins f k i) := by
  have e : (bigSep (insert i (f k)) (held m c k) : sProp 𝕄) = iprop(held m c k i ∗ bigSep (f k) (held m c k)) := bigSep_insert h
  rw [ins, All_update, All_split m c f k, e]
  iintro ⟨H1, H2, H3⟩
  isplitr [H3]
  · isplitl [H1] <;> iassumption
  · iexact H3

/-- What device `c` holds at a stage: the cells' records and the levels, what it owes, and the things listed. -/
def St (c : Dev nD) (s : Plan.Stg) : sProp 𝕄 :=
  iprop(recs m ∗ levAts L lv ∗ (∃ W, owes (c : Thread nD τ) (owing c s.snd) W) ∗ All m c (nums s))

/-- Device `c` stands where the events `l` remain. -/
def At (c : Dev nD) (l : List Plan.Op) : sProp 𝕄 :=
  iprop(∃ s, ⌜Plan.okAll l s = true ∧ Plan.run l s = Plan.stop⌝ ∗ St m c s)

/-- The program makes the events `o` on device `c` and returns a value of which `R` holds. -/
def Does (c : Dev nD) (o : List Plan.Op) {α : Type} (p : Prog (TpuEff nD τ sig (Elt F) Λ₀ .tc) α) (R : α → Prop) : Prop :=
  ∀ (l : List Plan.Op) (Q : α → sProp 𝕄), (∀ a, R a → At m c l ⊢ Q a) →
    At m c (o ++ l) ⊢ wp frame (wpE (defs₀ (F := F)) 𝒱₀ (c : Thread nD τ) none) Set.univ p Q

theorem Does.bind {c : Dev nD} {o₁ o₂ : List Plan.Op} {α β : Type} {p : Prog (TpuEff nD τ sig (Elt F) Λ₀ .tc) α}
    {f : α → Prog (TpuEff nD τ sig (Elt F) Λ₀ .tc) β} {R₁ : α → Prop} {R₂ : β → Prop}
    (h₁ : Does m c o₁ p R₁) (h₂ : ∀ a, R₁ a → Does m c o₂ (f a) R₂) : Does m c (o₁ ++ o₂) (p >>= f) R₂ := by
  intro l Q hQ
  rw [List.append_assoc, wp_bind]
  exact h₁ (o₂ ++ l) _ fun a ha => h₂ a ha l Q hQ

theorem Does.cons {c : Dev nD} {o : Plan.Op} {o₂ : List Plan.Op} {α β : Type} {p : Prog (TpuEff nD τ sig (Elt F) Λ₀ .tc) α}
    {f : α → Prog (TpuEff nD τ sig (Elt F) Λ₀ .tc) β} {R₁ : α → Prop} {R₂ : β → Prop}
    (h₁ : Does m c [o] p R₁) (h₂ : ∀ a, R₁ a → Does m c o₂ (f a) R₂) : Does m c (o :: o₂) (p >>= f) R₂ :=
  h₁.bind m h₂

theorem Does.pure {c : Dev nD} {α : Type} {a : α} {R : α → Prop} (h : R a) : Does m c [] (Pure.pure a) R := by
  intro l Q hQ
  rw [wp_pure]
  exact (hQ a h).trans (by iintro H; imodintro; iexact H)

/-- An event of the plan alone, before the program's next. -/
theorem Does.ghost {c : Dev nD} {o : Plan.Op} {o₂ : List Plan.Op} {α : Type} {p : Prog (TpuEff nD τ sig (Elt F) Λ₀ .tc) α} {R : α → Prop}
    (h₁ : ∀ l, At m c (o :: l) ⊢ |={Set.univ}=> At m c l) (h₂ : Does m c o₂ p R) : Does m c (o :: o₂) p R := by
  intro l Q hQ
  refine (h₁ _).trans (BI.Entails.trans ?_ (Idealize.SL.Sem.fupd_wp _ _ _ p Q))
  exact fupd_mono (h₂ l Q hQ)

theorem Does.conv {c : Dev nD} {o o' : List Plan.Op} {α : Type} {p : Prog (TpuEff nD τ sig (Elt F) Λ₀ .tc) α} {R R' : α → Prop}
    (h : Does m c o p R) (ho : o = o') (hR : ∀ a, R a → R' a) : Does m c o' p R' := by
  subst ho
  exact fun l Q hQ => h l Q fun a ha => hQ a (hR a ha)

end Cert.KernelIdealRun
-- ==== Proof.KernelIdeal.Steps.lean ====
/-
The rules of the body's events: one per kind of event, each proved once for a device and a number.
-/
module

public import proofs.«01_k».proof.Proof.KernelIdeal.Res

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- Where an event and then the events `l` remain: its being possible, and the stage after it. -/
theorem At_cons (o : Plan.Op) (l : List Plan.Op) :
    At m c (o :: l) ⊢ iprop(∃ s, ⌜Plan.ok o s = true ∧ Plan.okAll l (Plan.app o s) = true ∧ Plan.run l (Plan.app o s) = Plan.stop⌝ ∗ St m c s) := by
  unfold At
  iintro ⟨%s, %h, H⟩
  iexists s
  isplitr
  · ipureintro
    obtain ⟨h₁, h₂⟩ := h
    exact ⟨(Bool.and_eq_true_iff.mp h₁).1, (Bool.and_eq_true_iff.mp h₁).2, h₂⟩
  · iexact H

/-- The stage where the events `l` remain, from what it holds. -/
theorem At_intro {l : List Plan.Op} {s : Plan.Stg} {f : Kind → Finset ℕ} {S : Finset ℕ} {W : Waits sig Unit}
    (h : Plan.okAll l s = true ∧ Plan.run l s = Plan.stop) (hf : nums s = f) (hS : s.snd = S) :
    iprop(recs m ∗ levAts L lv ∗ owes (c : Thread nD τ) (owing c S) W ∗ All m c f) ⊢ At m c l := by
  subst hf; subst hS
  unfold At St
  iintro ⟨H1, H2, H3, H4⟩
  iexists s
  isplitr; · ipureintro; exact h
  isplitl [H1]; · iexact H1
  isplitl [H2]; · iexact H2
  isplitl [H3]; · iexists W; iexact H3
  iexact H4

/-! ## Loads -/

theorem does_ld (i : ℕ) {off : Fin 2 → ℕ} {inb : ∀ a, off a + S256x1024.size a ≤ S8192x1024.size a} (ho : off = ![256 * Plan.ord c i, 0])
    {off' : Fin 3 → ℕ} {inb' : ∀ a, off' a + S1x256x1024.size a ≤ S2x256x1024.size a} (ho' : off' = ![i % 2, 0, 0])
    {q : DmaSem sig} (hq : q = dq (i % 2)) {h₁ h₂ h₃} :
    Does m c [.ld i] (Prog.lift (.enqueueDma (xV inb) (.here (iV inb')) (.dma q) h₁ h₂ h₃)) (fun _ => True) := by
  subst hq
  intro l Q hQ
  refine (At_cons m c _ _).trans ?_
  unfold St
  iintro ⟨%s, %h, #Hr, #Hlev, ⟨%W, HO⟩, HA⟩
  obtain ⟨hok, h⟩ := h
  simp only [Plan.ok, Bool.and_eq_true, decide_eq_true_eq] at hok
  obtain ⟨⟨⟨⟨a1, a2⟩, a3⟩, a4⟩, a5⟩ := hok
  ihave H := (All_del m c .src i a1) $$ HA
  icases H with ⟨Hs, HA⟩
  ihave H := (All_del m c (f := del (nums s) .src i) .vin (i % 2) a2) $$ HA
  icases H with ⟨Hv, HA⟩
  ihave H := (All_del m c (f := del (del (nums s) .src i) .vin (i % 2)) .lsem (i % 2) a3) $$ HA
  icases H with ⟨Hz, HA⟩
  unfold held vinP
  icases Hv with ⟨%fd, Hv⟩
  iapply (Transfers.wp_dmaLocal countersEmb 𝒱₀ (c : Thread nD τ) none (via := .same) (src := xV inb) (dst := iV inb') (sm := .dma (dq (i % 2))) (fs := X m c) (fd := fd)
      (q := fullShare) (k := .ret) () NI rfl NI_pos (iV_set ho').subset) $$ [Hs Hv Hz]
  · isplitl [Hs]
    · rw [xV_set ho]; unfold srcP; iexact Hs
    isplitl [Hv]; · iexact Hv
    iexact Hz
  iintro Hf
  rw [wp_ret]
  imodintro
  iapply (hQ ⟨⟩ trivial)
  ihave Hf := (Transfers.Flight_mono countersEmb (c : Thread nD τ) (D' := iprop(gotP m c i ∗ srcP m c i)) (by
    rw [xV_set ho]
    unfold gotP srcP
    rw [pointsTo_congr (load_agrees m c i inb ho inb' ho' fd)])) $$ Hf
  ihave HA := (All_ins m c (f := del (del (del (nums s) .src i) .vin (i % 2)) .lsem (i % 2)) .lfl i a4) $$ [Hf HA]
  · isplitl [Hf]; · iexact Hf
    iexact HA
  iapply (At_intro m c h (f := ins (del (del (del (nums s) .src i) .vin (i % 2)) .lsem (i % 2)) .lfl i)
    (by funext k; cases k <;> rfl) rfl)
  isplitr; · iexact Hr
  isplitr; · iexact Hlev
  isplitl [HO]; · iexact HO
  iexact HA

theorem does_lw (i : ℕ) {q : DmaSem sig} (hq : q = dq (i % 2)) {sp sp' : Space} {S S' : Shape} {e e' : EltTy}
    {src : Memref sig .tc sp' S' e'} {dst : Memref sig .tc sp S e} (hN : dst.view.dmaCredit = NI) {h₁ h₂} :
    Does m c [.lw i] (Prog.lift (.waitDma2 q src dst h₁ h₂)) (fun _ => True) := by
  subst hq
  intro l Q hQ
  refine (At_cons m c _ _).trans ?_
  unfold St
  iintro ⟨%s, %h, #Hr, #Hlev, ⟨%W, HO⟩, HA⟩
  obtain ⟨hok, h⟩ := h
  simp only [Plan.ok, Bool.and_eq_true, decide_eq_true_eq] at hok
  obtain ⟨⟨⟨⟨⟨a1, a2⟩, a3⟩, a4⟩, a5⟩, a6⟩ := hok
  ihave H := (All_del m c .lfl i a1) $$ HA
  icases H with ⟨Hf, HA⟩
  iapply (Transfers.wp_waitLocalO countersEmb 𝒱₀ (c : Thread nD τ) none (k := .ret) () hN
      (D := iprop(gotP m c i ∗ srcP m c i)) (O := owing c s.snd) (W := W)) $$ [Hf HO]
  · isplitl [Hf]; · iexact Hf
    isplitl [HO]; · iexact HO
    iapply (mayWait_dma c (by omega) a6) $$ Hlev
  iintro ⟨⟨Hg, Hs⟩, Hz, HO⟩
  rw [wp_ret]
  imodintro
  iapply (hQ ⟨⟩ trivial)
  ihave HA := (All_ins m c (f := del (nums s) .lfl i) .src i a2) $$ [Hs HA]
  · isplitl [Hs]; · iexact Hs
    iexact HA
  ihave HA := (All_ins m c (f := ins (del (nums s) .lfl i) .src i) .lsem (i % 2) a3) $$ [Hz HA]
  · isplitl [Hz]; · iexact Hz
    iexact HA
  ihave HA := (All_ins m c (f := ins (ins (del (nums s) .lfl i) .src i) .lsem (i % 2)) .got i a4) $$ [Hg HA]
  · isplitl [Hg]; · iexact Hg
    iexact HA
  iapply (At_intro m c h (f := ins (ins (ins (del (nums s) .lfl i) .src i) .lsem (i % 2)) .got i) (by funext k; cases k <;> rfl) rfl)
  isplitr; · iexact Hr
  isplitr; · iexact Hlev
  isplitl [HO]; · iexact HO
  iexact HA

/-! ## The cast -/

theorem does_rd (i : ℕ) {off : Fin 3 → ℕ} {inb : ∀ a, off a + S1x256x1024.size a ≤ S2x256x1024.size a} (ho : off = ![i % 2, 0, 0]) {hl} :
    Does m c [.rd i] (Prog.lift (.load iM (slotR inb).toLoadRect hl)) (fun v => v = xval m c i) := by
  intro l Q hQ
  refine (At_cons m c _ _).trans ?_
  unfold St
  iintro ⟨%s, %h, #Hr, #Hlev, ⟨%W, HO⟩, HA⟩
  obtain ⟨hok, h⟩ := h
  simp only [Plan.ok, decide_eq_true_eq] at hok
  ihave H := (All_del m c .got i hok) $$ HA
  icases H with ⟨Hg, HA⟩
  unfold held gotP
  iapply (wp_load_rect 𝒱₀ (c : Thread nD τ) none Set.univ (m := iM) (r := slotR inb) (k := .ret) (iA_set ho).subset) $$ Hg
  iintro Hg
  rw [wp_ret]
  imodintro
  iapply (hQ _ (load_reads m c i inb ho))
  ihave HA := (All_ins m c (f := del (nums s) .got i) .got i (Finset.notMem_erase _ _)) $$ [Hg HA]
  · isplitl [Hg]; · unfold held gotP; iexact Hg
    iexact HA
  iapply (At_intro m c h (f := ins (del (nums s) .got i) .got i) (by
    funext k
    cases k <;> first | rfl | exact (Finset.insert_erase hok).symm) rfl)
  isplitr; · iexact Hr
  isplitr; · iexact Hlev
  isplitl [HO]; · iexact HO
  iexact HA

theorem does_rv (i : ℕ) {off : Fin 3 → ℕ} {inb : ∀ a, off a + S1x256x1024.size a ≤ S2x256x1024.size a} (ho : off = ![i % 2, 0, 0]) {hl} :
    Does m c [.rv i] (Prog.lift (.load cM (slotR inb).toLoadRect hl)) (fun _ => True) := by
  intro l Q hQ
  refine (At_cons m c _ _).trans ?_
  unfold St
  iintro ⟨%s, %h, #Hr, #Hlev, ⟨%W, HO⟩, HA⟩
  obtain ⟨hok, h⟩ := h
  simp only [Plan.ok, decide_eq_true_eq] at hok
  ihave H := (All_del m c .vout (i % 2) hok) $$ HA
  icases H with ⟨Hg, HA⟩
  unfold held voutP
  icases Hg with ⟨%fd, Hg⟩
  iapply (wp_load_rect 𝒱₀ (c : Thread nD τ) none Set.univ (m := cM) (r := slotR inb) (k := .ret) (cA_set ho).subset) $$ Hg
  iintro Hg
  rw [wp_ret]
  imodintro
  iapply (hQ _ trivial)
  ihave HA := (All_ins m c (f := del (nums s) .vout (i % 2)) .vout (i % 2) (Finset.notMem_erase _ _)) $$ [Hg HA]
  · isplitl [Hg]; · unfold held voutP; iexists fd; iexact Hg
    iexact HA
  iapply (At_intro m c h (f := ins (del (nums s) .vout (i % 2)) .vout (i % 2)) (by
    funext k
    cases k <;> first | rfl | exact (Finset.insert_erase hok).symm) rfl)
  isplitr; · iexact Hr
  isplitr; · iexact Hlev
  isplitl [HO]; · iexact HO
  iexact HA

theorem stored (i : ℕ) {off : Fin 3 → ℕ} {inb : ∀ a, off a + S1x256x1024.size a ≤ S2x256x1024.size a} (ho : off = ![i % 2, 0, 0])
    (fd : S2x256x1024.Idx → Elt F .bf16) :
    (cL c ↦[slot (i % 2)]{fullShare} ((cM.access (slotR inb)).write (Elt F) fd (k0_pay1 (xval m c i)) Finset.univ) : sProp 𝕄) ⊢ cstP m c i :=
  Entails.of_eq (pointsTo_congr (store_agrees m c i inb ho fd))

theorem does_st (i : ℕ) {off : Fin 3 → ℕ} {inb : ∀ a, off a + S1x256x1024.size a ≤ S2x256x1024.size a} (ho : off = ![i % 2, 0, 0])
    {w : FVec F S1x256x1024 .bf16} (hw : w = k0_pay1 (xval m c i)) {h₁ h₂} :
    Does m c [.st i] (Prog.lift (.store cM (slotR inb) w Finset.univ h₁ h₂)) (fun _ => True) := by
  subst hw
  intro l Q hQ
  refine (At_cons m c _ _).trans ?_
  unfold St
  iintro ⟨%s, %h, #Hr, #Hlev, ⟨%W, HO⟩, HA⟩
  obtain ⟨hok, h⟩ := h
  simp only [Plan.ok, Bool.and_eq_true, decide_eq_true_eq] at hok
  obtain ⟨⟨⟨⟨a1, a2⟩, a3⟩, a4⟩, a5⟩ := hok
  ihave H := (All_del m c .got i a1) $$ HA
  icases H with ⟨Hg, HA⟩
  ihave H := (All_del m c (f := del (nums s) .got i) .vout (i % 2) a3) $$ HA
  icases H with ⟨Hv, HA⟩
  unfold held voutP
  icases Hv with ⟨%fd, Hv⟩
  iapply (wp_store 𝒱₀ (c : Thread nD τ) none Set.univ (m := cM) (r := slotR inb) (Mk := Finset.univ) (k := .ret) (cA_set ho).subset) $$ Hv
  iintro Hv
  rw [wp_ret]
  imodintro
  iapply (hQ _ trivial)
  ihave HA := (All_ins m c (f := del (del (nums s) .got i) .vout (i % 2)) .vin (i % 2) a2) $$ [Hg HA]
  · isplitl [Hg]; · unfold held vinP gotP; iexists _; iexact Hg
    iexact HA
  ihave HA := (All_ins m c (f := ins (del (del (nums s) .got i) .vout (i % 2)) .vin (i % 2)) .cst i a4) $$ [Hv HA]
  · isplitl [Hv]
    · ihave Hv := (stored m c i ho fd) $$ Hv
      iexact Hv
    iexact HA
  iapply (At_intro m c h (f := ins (ins (del (del (nums s) .got i) .vout (i % 2)) .vin (i % 2)) .cst i) (by funext k; cases k <;> rfl) rfl)
  isplitr; · iexact Hr
  isplitr; · iexact Hlev
  isplitl [HO]; · iexact HO
  iexact HA

/-! ## The local copies -/

theorem shr_own {i : ℕ} (h : i < 32) : shr i = fullShare := by
  unfold shr Plan.shareOf
  rw [if_neg (by omega), if_neg (by omega)]

theorem does_cp (i : ℕ) {off : Fin 2 → ℕ} {inb : ∀ a, off a + S256x1024.size a ≤ S16384x1024.size a} (ho : off = ![256 * Plan.rowOf c i, 0])
    {off' : Fin 3 → ℕ} {inb' : ∀ a, off' a + S1x256x1024.size a ≤ S2x256x1024.size a} (ho' : off' = ![i % 2, 0, 0])
    {q : DmaSem sig} (hq : q = dq (2 + i)) {h₁ h₂ h₃} :
    Does m c [.cp i] (Prog.lift (.enqueueDma (cV inb') (.here (oV inb)) (.dma q) h₁ h₂ h₃)) (fun _ => True) := by
  subst hq
  intro l Q hQ
  refine (At_cons m c _ _).trans ?_
  unfold St
  iintro ⟨%s, %h, #Hr, #Hlev, ⟨%W, HO⟩, HA⟩
  obtain ⟨hok, h⟩ := h
  simp only [Plan.ok, Bool.and_eq_true, decide_eq_true_eq] at hok
  obtain ⟨⟨⟨⟨a1, a2⟩, a3⟩, a4⟩, a5⟩ := hok
  ihave H := (All_del m c .cst i a1) $$ HA
  icases H with ⟨Hs, HA⟩
  ihave H := (All_del m c (f := del (nums s) .cst i) .own i a2) $$ HA
  icases H with ⟨Hv, HA⟩
  ihave H := (All_del m c (f := del (del (nums s) .cst i) .own i) .csem i a3) $$ HA
  icases H with ⟨Hz, HA⟩
  iapply (Transfers.wp_dmaLocal countersEmb 𝒱₀ (c : Thread nD τ) none (via := .same) (src := cV inb') (dst := oV inb) (sm := .dma (dq (2 + i)))
      (fs := voutF m c i) (fd := Y m c) (q := fullShare) (k := .ret) () N rfl N_pos (oV_set ho).subset) $$ [Hs Hv Hz]
  · isplitl [Hs]
    · rw [cV_set ho']; unfold held cstP; iexact Hs
    isplitl [Hv]; · unfold held raw; iexact Hv
    iexact Hz
  iintro Hf
  rw [wp_ret]
  imodintro
  iapply (hQ ⟨⟩ trivial)
  ihave Hf := (Transfers.Flight_mono countersEmb (c : Thread nD τ) (D' := iprop(pay m c i ∗ cstP m c i)) (by
    rw [cV_set ho']
    unfold pay cstP
    rw [shr_own a5, pointsTo_congr (copy_agrees m c i a5 inb ho inb' ho' (Y m c))])) $$ Hf
  ihave HA := (All_ins m c (f := del (del (del (nums s) .cst i) .own i) .csem i) .cfl i a4) $$ [Hf HA]
  · isplitl [Hf]; · iexact Hf
    iexact HA
  iapply (At_intro m c h (f := ins (del (del (del (nums s) .cst i) .own i) .csem i) .cfl i) (by funext k; cases k <;> rfl) rfl)
  isplitr; · iexact Hr
  isplitr; · iexact Hlev
  isplitl [HO]; · iexact HO
  iexact HA

theorem does_cw (i : ℕ) {q : DmaSem sig} (hq : q = dq (2 + i)) {sp sp' : Space} {S S' : Shape} {e e' : EltTy}
    {src : Memref sig .tc sp' S' e'} {dst : Memref sig .tc sp S e} (hN : dst.view.dmaCredit = N) {h₁ h₂} :
    Does m c [.cw i] (Prog.lift (.waitDma2 q src dst h₁ h₂)) (fun _ => True) := by
  subst hq
  intro l Q hQ
  refine (At_cons m c _ _).trans ?_
  unfold St
  iintro ⟨%s, %h, #Hr, #Hlev, ⟨%W, HO⟩, HA⟩
  obtain ⟨hok, h⟩ := h
  simp only [Plan.ok, Bool.and_eq_true, decide_eq_true_eq] at hok
  obtain ⟨⟨⟨⟨⟨a1, a2⟩, a3⟩, a4⟩, a5⟩, a6⟩ := hok
  ihave H := (All_del m c .cfl i a1) $$ HA
  icases H with ⟨Hf, HA⟩
  iapply (Transfers.wp_waitLocalO countersEmb 𝒱₀ (c : Thread nD τ) none (k := .ret) () hN
      (D := iprop(pay m c i ∗ cstP m c i)) (O := owing c s.snd) (W := W)) $$ [Hf HO]
  · isplitl [Hf]; · iexact Hf
    isplitl [HO]; · iexact HO
    iapply (mayWait_dma c (by omega) a6) $$ Hlev
  iintro ⟨⟨Hg, Hs⟩, Hz, HO⟩
  rw [wp_ret]
  imodintro
  iapply (hQ ⟨⟩ trivial)
  ihave HA := (All_ins m c (f := del (nums s) .cfl i) .vout (i % 2) a2) $$ [Hs HA]
  · isplitl [Hs]; · unfold held voutP cstP; iexists _; iexact Hs
    iexact HA
  ihave HA := (All_ins m c (f := ins (del (nums s) .cfl i) .vout (i % 2)) .hold i a3) $$ [Hg HA]
  · isplitl [Hg]; · iexact Hg
    iexact HA
  ihave HA := (All_ins m c (f := ins (ins (del (nums s) .cfl i) .vout (i % 2)) .hold i) .csem i a4) $$ [Hz HA]
  · isplitl [Hz]; · iexact Hz
    iexact HA
  iapply (At_intro m c h (f := ins (ins (ins (del (nums s) .cfl i) .vout (i % 2)) .hold i) .csem i) (by funext k; cases k <;> rfl) rfl)
  isplitr; · iexact Hr
  isplitr; · iexact Hlev
  isplitl [HO]; · iexact HO
  iexact HA

/-! ## The transfers between devices -/

theorem sends_range {n : ℕ} (h : n ∈ Plan.sends) : 34 ≤ n ∧ n < 98 ∧ 34 ≤ Plan.recvOf n ∧ Plan.recvOf n < 98 := by
  have : ∀ n ∈ Plan.sends, 34 ≤ n ∧ n < 98 ∧ 34 ≤ Plan.recvOf n ∧ Plan.recvOf n < 98 := by decide
  exact this n h

theorem shr_recv {n : ℕ} (h : n ∈ Plan.sends) : shr (Plan.recvOf n) = fullShare := by
  have h' : ∀ n ∈ Plan.sends, Plan.shareOf (Plan.recvOf n) = 0 := by decide
  unfold shr
  rw [h' n h]

theorem owing_erase {S : Finset ℕ} {n : ℕ} (h : n ∈ S) :
    owing c S = owing c (S.erase n) + tallyAt (cellD (Plan.peer n c) (Plan.recvOf n)) () N :=
  (Finset.sum_erase_add _ _ h).symm

theorem does_snd (n : ℕ) {off : Fin 2 → ℕ} {inb : ∀ a, off a + S256x1024.size a ≤ S16384x1024.size a} (ho : off = ![256 * Plan.rowOf c n, 0])
    {off' : Fin 2 → ℕ} {inb' : ∀ a, off' a + S256x1024.size a ≤ S16384x1024.size a} (ho' : off' = ![256 * Plan.rowOf c n, 0])
    {p : Dev nD} (hp : p = Plan.peer n c) {q q' : DmaSem sig} (hq : q = dq n) (hq' : q' = dq (Plan.recvOf n)) {hsc h₁ h₂ h₃} :
    Does m c [.snd n] (Prog.lift (.enqueueDma (oV inb) (.remote (Dev.tc p) (oV inb') (.dma q) hsc) (.dma q') h₁ h₂ h₃)) (fun _ => True) := by
  subst hp hq hq'
  intro l Q hQ
  refine (At_cons m c _ _).trans ?_
  unfold St
  iintro ⟨%s, %h, #Hr, #Hlev, ⟨%W, HO⟩, HA⟩
  obtain ⟨hok, h⟩ := h
  simp only [Plan.ok, Bool.and_eq_true, decide_eq_true_eq] at hok
  obtain ⟨⟨⟨a1, a2⟩, a3⟩, a4⟩ := hok
  obtain ⟨r1, r2, r3, r4⟩ := sends_range a4
  obtain ⟨e1, e2⟩ := Plan.send_agrees n a4 c
  ihave H := (All_del m c .hold n a1) $$ HA
  icases H with ⟨Hs, HA⟩
  ihave H := (All_del m c (f := del (nums s) .hold n) .snd n a2) $$ HA
  icases H with ⟨⟨Ht, Ht', Hd⟩, HA⟩
  ihave H := (recs_dma m c r1 r2) $$ Hr
  icases H with ⟨%κ, #Hi, #Hre⟩
  ihave H := (recs_dma m (Plan.peer n c) r3 r4) $$ Hr
  icases H with ⟨%κ', #Hi', #Hre'⟩
  iapply (Rounds.wp_send_pointsTo 𝒱₀ ER (Rd m) (c : Thread nD τ) none (c' := (Plan.peer n c : Thread nD τ)) (src := oV inb) (dst := oV inb')
      (sS := .dma (dq n)) (sem := .dma (dq (Plan.recvOf n))) (κ₁ := κ) (κ₂ := κ') (r₁ := 0) (r₂ := 0) (d₁ := 0) (d₂ := 0)
      (fs := G m c) (fd := Y m (Plan.peer n c)) (q := shr n) (k := .ret)
      (by rw [duties_dma m c r1 r2]; exact Finset.mem_singleton_self _)
      (by rw [duties_dma m (Plan.peer n c) r3 r4]; exact Finset.mem_singleton_self _)
      () () N rfl rfl rfl (owing c (s.snd.erase n)) (owing_erase c a2) (W := W)
      (by rw [payload_dma m c r2, oV_set ho]; unfold pay; exact BI.Entails.refl _)
      (by
        rw [payload_dma m (Plan.peer n c) r4, oV_set ho']
        unfold pay
        rw [shr_recv a4, e1, pointsTo_congr (send_agrees m c (Plan.peer n c) (Plan.rowOf c n) e2 inb inb' ho ho' (Y m (Plan.peer n c)))]))
    $$ [Hs Hd HO Ht Ht']
  · isplitr; · iexact Hi
    isplitr; · iexact Hi'
    isplitl [Hs]; · rw [oV_set ho]; unfold held pay; iexact Hs
    isplitl [Hd]; · rw [oV_set ho']; unfold raw; rw [e1]; iexact Hd
    isplitl [HO]; · iexact HO
    isplitl [Ht]; · iexact Ht
    isplitr; · iexact Hre
    isplitl [Ht']; · iexact Ht'
    iexact Hre'
  iintro ⟨Hc, HO⟩
  rw [wp_ret]
  imodintro
  iapply (hQ ⟨⟩ trivial)
  ihave HA := (All_ins m c (f := del (del (nums s) .hold n) .snd n) .crd n a3) $$ [Hc HA]
  · isplitl [Hc]; · iexact Hc
    iexact HA
  iapply (At_intro m c h (f := ins (del (del (nums s) .hold n) .snd n) .crd n) (by funext k; cases k <;> rfl) rfl)
  isplitr; · iexact Hr
  isplitr; · iexact Hlev
  isplitl [HO]; · iexact HO
  iexact HA

theorem does_wt (n : ℕ) {q : DmaSem sig} (hq : q = dq n) {sp sp' : Space} {S S' : Shape} {e e' : EltTy}
    {src : Memref sig .tc sp' S' e'} {dst : Memref sig .tc sp S e} (hN : dst.view.dmaCredit = N) {h₁ h₂} :
    Does m c [.wt n] (Prog.lift (.waitDma2 q src dst h₁ h₂)) (fun _ => True) := by
  subst hq
  intro l Q hQ
  refine (At_cons m c _ _).trans ?_
  unfold St
  iintro ⟨%s, %h, #Hr, #Hlev, ⟨%W, HO⟩, HA⟩
  obtain ⟨hok, h⟩ := h
  simp only [Plan.ok, Bool.and_eq_true, decide_eq_true_eq] at hok
  obtain ⟨⟨⟨⟨⟨⟨a1, a2⟩, a3⟩, a4⟩, a5⟩, a6⟩, a7⟩ := hok
  ihave H := (All_del m c .pos n a1) $$ HA
  icases H with ⟨Hp, HA⟩
  ihave H := (All_del m c (f := del (nums s) .pos n) .crd n a2) $$ HA
  icases H with ⟨Hc, HA⟩
  ihave H := (recs_dma m c a5 a6) $$ Hr
  icases H with ⟨%κ, #Hi, -⟩
  iapply (Rounds.wp_wait_rest_token 𝒱₀ ER (Rd m) (c : Thread nD τ) none (κ := κ) (k := .ret)
      (wpE_waitDma2_eq 𝒱₀ (c : Thread nD τ) none Set.univ) (Set.mem_univ _) () (O := owing c s.snd) (W := W) (R := 0) (m := 0) (T := ∅)
      (by rw [Nat.zero_add, expect_dma m c a5 a6, hN])) $$ [Hc HO Hp]
  · isplitr; · iexact Hi
    isplitl [Hc]; · rw [hN]; iexact Hc
    isplitl [HO]; · iexact HO
    isplitr; · iapply (mayWait_dma c a6 a7) $$ Hlev
    iexact Hp
  iintro ⟨HO, Hp, -, Hg⟩
  imod (Rounds.cell_close ER (Rd m) (Set.mem_univ κ) (fun h => h) (R := 0 + 1) (duties_later m (cellD c n))) $$ [Hp] with Hz
  · isplitr; · iexact Hi
    iexact Hp
  ihave Hg := (Entails.of_eq (rest_dma m c a5 a6)) $$ Hg
  rw [wp_ret]
  imodintro
  iapply (hQ ⟨⟩ trivial)
  ihave HA := (All_ins m c (f := del (del (nums s) .pos n) .crd n) .hold n a3) $$ [Hg HA]
  · isplitl [Hg]; · iexact Hg
    iexact HA
  ihave HA := (All_ins m c (f := ins (del (del (nums s) .pos n) .crd n) .hold n) .done n a4) $$ [Hz HA]
  · isplitl [Hz]; · iexact Hz
    iexact HA
  iapply (At_intro m c h (f := ins (ins (del (del (nums s) .pos n) .crd n) .hold n) .done n) (by funext k; cases k <;> rfl) rfl)
  isplitr; · iexact Hr
  isplitr; · iexact Hlev
  isplitl [HO]; · iexact HO
  iexact HA

/-! ## The renamings -/

theorem pay_renamed {n n' : ℕ} (h : Plan.renames n n' = true) : pay m c n = pay m c n' := by
  simp only [Plan.renames, Bool.and_eq_true, decide_eq_true_eq] at h
  unfold pay shr
  rw [h.1, h.2 c]

theorem ghost_mv (n n' : ℕ) (l : List Plan.Op) : At m c (.mv n n' :: l) ⊢ |={Set.univ}=> At m c l := by
  refine (At_cons m c _ _).trans ?_
  unfold St
  iintro ⟨%s, %h, #Hr, #Hlev, ⟨%W, HO⟩, HA⟩
  obtain ⟨hok, h⟩ := h
  simp only [Plan.ok, Bool.and_eq_true, decide_eq_true_eq] at hok
  obtain ⟨⟨a1, a2⟩, a3⟩ := hok
  ihave H := (All_del m c .hold n a1) $$ HA
  icases H with ⟨Hs, HA⟩
  imodintro
  ihave HA := (All_ins m c (f := del (nums s) .hold n) .hold n' (fun h => a2 (Finset.mem_of_mem_erase h))) $$ [Hs HA]
  · isplitl [Hs]; · ihave Hs := (Entails.of_eq (pay_renamed m c a3)) $$ Hs; iexact Hs
    iexact HA
  iapply (At_intro m c h (f := ins (del (nums s) .hold n) .hold n') (by funext k; cases k <;> rfl) rfl)
  isplitr; · iexact Hr
  isplitr; · iexact Hlev
  isplitl [HO]; · iexact HO
  iexact HA

/-- A received chunk is the two halves forwarded. -/
theorem pay_halves {j : ℕ} (h : j < 7) : pay m c (45 + j) = iprop(pay m c (56 + j) ∗ pay m c (78 + j)) := by
  have h' : ∀ j < 7, ∀ c : Fin 32, Plan.rowOf c (56 + j) = Plan.rowOf c (45 + j) ∧ Plan.rowOf c (78 + j) = Plan.rowOf c (45 + j)
      ∧ Plan.shareOf (45 + j) = 0 ∧ Plan.shareOf (56 + j) = 1 ∧ Plan.shareOf (78 + j) = 2 := by decide +kernel
  obtain ⟨e1, e2, e3, e4, e5⟩ := h' j h c
  unfold pay shr
  rw [e1, e2, e3, e4, e5]
  exact BI.Entails.antisymm (pointsTo_share (PosShare.mem_left_op_right _)).1 (pointsTo_share (PosShare.mem_left_op_right _)).2

theorem ghost_sp (j : ℕ) (l : List Plan.Op) : At m c (.sp j :: l) ⊢ |={Set.univ}=> At m c l := by
  refine (At_cons m c _ _).trans ?_
  unfold St
  iintro ⟨%s, %h, #Hr, #Hlev, ⟨%W, HO⟩, HA⟩
  obtain ⟨hok, h⟩ := h
  simp only [Plan.ok, Bool.and_eq_true, decide_eq_true_eq] at hok
  obtain ⟨⟨⟨a1, a2⟩, a3⟩, a4⟩ := hok
  ihave H := (All_del m c .hold (45 + j) a1) $$ HA
  icases H with ⟨Hs, HA⟩
  ihave Hs := (Entails.of_eq (pay_halves m c a4)) $$ Hs
  icases Hs with ⟨Ha, Hb⟩
  imodintro
  ihave HA := (All_ins m c (f := del (nums s) .hold (45 + j)) .hold (78 + j) (fun h => a3 (Finset.mem_of_mem_erase h))) $$ [Hb HA]
  · isplitl [Hb]; · iexact Hb
    iexact HA
  ihave HA := (All_ins m c (f := ins (del (nums s) .hold (45 + j)) .hold (78 + j)) .hold (56 + j) (fun h =>
    (Finset.mem_insert.mp h).elim (fun h => by omega) (fun h => a2 (Finset.mem_of_mem_erase h)))) $$ [Ha HA]
  · isplitl [Ha]; · iexact Ha
    iexact HA
  iapply (At_intro m c h (f := ins (ins (del (nums s) .hold (45 + j)) .hold (78 + j)) .hold (56 + j)) (by funext k; cases k <;> rfl) rfl)
  isplitr; · iexact Hr
  isplitr; · iexact Hlev
  isplitl [HO]; · iexact HO
  iexact HA

theorem ghost_mg (j : ℕ) (l : List Plan.Op) : At m c (.mg j :: l) ⊢ |={Set.univ}=> At m c l := by
  refine (At_cons m c _ _).trans ?_
  unfold St
  iintro ⟨%s, %h, #Hr, #Hlev, ⟨%W, HO⟩, HA⟩
  obtain ⟨hok, h⟩ := h
  simp only [Plan.ok, Bool.and_eq_true, decide_eq_true_eq] at hok
  obtain ⟨⟨⟨a1, a2⟩, a3⟩, a4⟩ := hok
  ihave H := (All_del m c .hold (56 + j) a1) $$ HA
  icases H with ⟨Ha, HA⟩
  ihave H := (All_del m c (f := del (nums s) .hold (56 + j)) .hold (78 + j) (Finset.mem_erase.mpr ⟨by omega, a2⟩)) $$ HA
  icases H with ⟨Hb, HA⟩
  imodintro
  ihave HA := (All_ins m c (f := del (del (nums s) .hold (56 + j)) .hold (78 + j)) .hold (45 + j) (fun h =>
    a3 (Finset.mem_of_mem_erase (Finset.mem_of_mem_erase h)))) $$ [Ha Hb HA]
  · isplitr [HA]
    · iapply (Entails.of_eq (pay_halves m c a4).symm)
      isplitl [Ha]; · iexact Ha
      iexact Hb
    iexact HA
  iapply (At_intro m c h (f := ins (del (del (nums s) .hold (56 + j)) .hold (78 + j)) .hold (45 + j)) (by funext k; cases k <;> rfl) rfl)
  isplitr; · iexact Hr
  isplitr; · iexact Hlev
  isplitl [HO]; · iexact HO
  iexact HA

end Cert.KernelIdealRun
-- ==== Proof.KernelIdeal.Tables.lean ====
/-
The places and partners named in the program text, in the plan's terms.
-/
module

public import proofs.«01_k».proof.Proof.KernelIdeal.Steps

@[expose] public section

noncomputable section

namespace Cert.KernelIdealRun

open Cert.KernelIdeal Cert.KernelIdeal.Gen

open Idealize.ShloMosaic
open Idealize.ShloMosaic.TcCoe

variable (c : Dev nD)

/-- The operand rows of the own quarter. -/
theorem at1_first {r : ℕ} (hr : r < 7) : k0_off1 c (BitVec.ofNat 32 0) (BitVec.ofNat 32 r) = ![256 * Plan.ord c r, 0] :=
  (show ∀ (d : Dev nD) (r : Fin 7), k0_off1 d (BitVec.ofNat 32 0) (BitVec.ofNat 32 r.val) = ![256 * Plan.ord d r.val, 0] by
    decide +kernel) c ⟨r, hr⟩

/-- The operand rows of the four common chunks. -/
theorem at1_mid {r : ℕ} (hr : r < 4) : ![256 * r, 0] = ![256 * Plan.ord c (7 + r), 0] :=
  (show ∀ (d : Dev nD) (r : Fin 4), ![256 * r.val, 0] = ![256 * Plan.ord d (7 + r.val), 0] by decide +kernel) c ⟨r, hr⟩

/-- The operand rows of the other quarters. -/
theorem at1_later {k r : ℕ} (hk : k < 4) (hk' : 1 ≤ k) (hr : r < 7) :
    k0_off1 c (BitVec.ofNat 32 k) (BitVec.ofNat 32 r) = ![256 * Plan.ord c (11 + 7 * (k - 1) + r), 0] :=
  (show ∀ (d : Dev nD) (k : Fin 4) (r : Fin 7), 1 ≤ k.val →
      k0_off1 d (BitVec.ofNat 32 k.val) (BitVec.ofNat 32 r.val) = ![256 * Plan.ord d (11 + 7 * (k.val - 1) + r.val), 0] by
    decide +kernel) c ⟨k, hk⟩ ⟨r, hr⟩ hk'

/-- The result rows of the own quarter: copied to, then sent from. -/
theorem at2_first {r n : ℕ} (hr : r < 7) (hn : n = r ∨ n = 34 + r) :
    k0_off2 c (BitVec.ofNat 32 0) (BitVec.ofNat 32 r) = ![256 * Plan.rowOf c n, 0] := by
  have h := (show ∀ (d : Dev nD) (r : Fin 7),
      k0_off2 d (BitVec.ofNat 32 0) (BitVec.ofNat 32 r.val) = ![256 * Plan.rowOf d r.val, 0]
      ∧ k0_off2 d (BitVec.ofNat 32 0) (BitVec.ofNat 32 r.val) = ![256 * Plan.rowOf d (34 + r.val), 0] by decide +kernel) c ⟨r, hr⟩
  rcases hn with rfl | rfl
  · exact h.1
  · exact h.2

/-- The result rows of the four common chunks: copied to, then sent from. -/
theorem at3 {r n : ℕ} (hr : r < 4) (hn : n = 7 + r ∨ n = 41 + r) :
    k0_off3 c (BitVec.ofNat 32 (256 * r)) = ![256 * Plan.rowOf c n, 0] := by
  have h := (show ∀ (d : Dev nD) (r : Fin 4),
      k0_off3 d (BitVec.ofNat 32 (256 * r.val)) = ![256 * Plan.rowOf d (7 + r.val), 0]
      ∧ k0_off3 d (BitVec.ofNat 32 (256 * r.val)) = ![256 * Plan.rowOf d (41 + r.val), 0] by decide +kernel) c ⟨r, hr⟩
  rcases hn with rfl | rfl
  · exact h.1
  · exact h.2

/-- The result rows of the other quarters of the own half. -/
theorem at2_later {k r : ℕ} (hk : k < 4) (hk' : 1 ≤ k) (hr : r < 7) :
    k0_off2 c (BitVec.ofNat 32 k) (BitVec.ofNat 32 r) = ![256 * Plan.rowOf c (11 + 7 * (k - 1) + r), 0] :=
  (show ∀ (d : Dev nD) (k : Fin 4) (r : Fin 7), 1 ≤ k.val →
      k0_off2 d (BitVec.ofNat 32 k.val) (BitVec.ofNat 32 r.val) = ![256 * Plan.rowOf d (11 + 7 * (k.val - 1) + r.val), 0] by
    decide +kernel) c ⟨k, hk⟩ ⟨r, hr⟩ hk'

/-- The result rows relayed from the x link to the y and to the z link. -/
theorem at4 {r n : ℕ} (hr : r < 7) (hn : n = 56 + r ∨ n = 78 + r) :
    k0_off4 c (BitVec.ofNat 32 r) = ![256 * Plan.rowOf c n, 0] := by
  have h := (show ∀ (d : Dev nD) (r : Fin 7),
      k0_off4 d (BitVec.ofNat 32 r.val) = ![256 * Plan.rowOf d (56 + r.val), 0]
      ∧ k0_off4 d (BitVec.ofNat 32 r.val) = ![256 * Plan.rowOf d (78 + r.val), 0] by decide +kernel) c ⟨r, hr⟩
  rcases hn with rfl | rfl
  · exact h.1
  · exact h.2

/-- The result rows relayed from the z link to the y link. -/
theorem at5 {r : ℕ} (hr : r < 4) : k0_off5 c (BitVec.ofNat 32 r) = ![256 * Plan.rowOf c (63 + r), 0] :=
  (show ∀ (d : Dev nD) (r : Fin 4), k0_off5 d (BitVec.ofNat 32 r.val) = ![256 * Plan.rowOf d (63 + r.val), 0] by
    decide +kernel) c ⟨r, hr⟩

/-- The result rows relayed from the y link to the z link. -/
theorem at6 {r : ℕ} (hr : r < 7) (hr' : 4 ≤ r) : k0_off6 c (BitVec.ofNat 32 r) = ![256 * Plan.rowOf c (81 + r), 0] :=
  (show ∀ (d : Dev nD) (r : Fin 7), 4 ≤ r.val → k0_off6 d (BitVec.ofNat 32 r.val) = ![256 * Plan.rowOf d (81 + r.val), 0] by
    decide +kernel) c ⟨r, hr⟩ hr'

/-- The partner of a send, from its number on every device. -/
theorem at_dev {n : ℕ} {f : Dev nD → ℕ} {hf : f c < nD} (h : ∀ d : Dev nD, f d = (Plan.peer n d).val) :
    (⟨f c, hf⟩ : Dev nD) = Plan.peer n c := Fin.ext (h c)

end Cert.KernelIdealRun
-- ==== Proof.KernelIdeal.Parts.lean ====
/-
The body's parts, one after another: each does the events of the plan that it stands for.
-/
module

public import proofs.«01_k».proof.Proof.KernelIdeal.Tables

@[expose] public section

noncomputable section

namespace Cert.KernelIdealRun

open Cert.KernelIdeal Cert.KernelIdeal.Gen

open Idealize.ShloMosaic
open Idealize.ShloMosaic.TcCoe

variable {F : FTy → Type} [FloatOps F]

variable (m : (ℓ : Loc nD τ sig) → Buf (Elt F) ℓ) (c : Dev nD)

/-- Each buffer is whole. -/
theorem hX : (xM).IsWhole := Memref.isWhole_whole _
theorem hO : (oM).IsWhole := Memref.isWhole_whole _
theorem hI : (iM).IsWhole := Memref.isWhole_whole _
theorem hC : (cM).IsWhole := Memref.isWhole_whole _

set_option maxRecDepth 65536

/-- Part 3 of the body does these events of the plan. -/
theorem part3 (v37 v57 v60 : BitVec 32) :
    Does m c [.ld 1, .lw 0, .rd 0, .rv 0, .st 0, .cp 0]
      (k0_part3 xM hX oM hO iM hI cM hC cc0_scratch2 cc0_scratch3 cc0_scratch4 cc0_scratch5 cc0_scratch6 cc0_scratch7 cc0_scratch8
        cc0_scratch9 c v37 v57 v60) (fun _ => True) := by
  rw [k0_part3_eq_skeleton]
  unfold k0_part3_skel
  refine .cons m (does_ld m c 1 (at1_first c (by decide)) (by rfl) (by rfl)) fun _ _ => ?_
  refine .cons m (does_lw m c 0 (by rfl) (by rfl)) fun _ _ => ?_
  refine .cons m (does_rd m c 0 (by rfl)) fun v hv => ?_
  refine .cons m (does_rv m c 0 (by rfl)) fun _ _ => ?_
  refine .cons m (does_st m c 0 (by rfl) (by subst hv; rfl)) fun _ _ => ?_
  refine .cons m (does_cp m c 0 (at2_first c (by decide) (by decide)) (by rfl) (by rfl)) fun _ _ => ?_
  exact .pure m trivial

/-- Part 4 of the body does these events of the plan. -/
theorem part4 (v5 v8 v11 v37 v41 v57 : BitVec 32) :
    Does m c [.cw 0, .mv 0 34, .snd 34]
      (k0_part4 xM hX oM hO iM hI cM hC cc0_scratch2 cc0_scratch3 cc0_scratch4 cc0_scratch5 cc0_scratch6 cc0_scratch7 cc0_scratch8
        cc0_scratch9 c v5 v8 v11 v37 v41 v57) (fun _ => True) := by
  rw [k0_part4_eq_skeleton]
  unfold k0_part4_skel
  refine .cons m (does_cw m c 0 (by rfl) (by rfl)) fun _ _ => ?_
  refine .ghost m (ghost_mv m c 0 34) ?_
  refine .cons m (does_snd m c 34 (at2_first c (by decide) (by decide)) (at2_first c (by decide) (by decide)) (at_dev c (by decide +kernel)) (by rfl) (by rfl)) fun _ _ => ?_
  exact .pure m trivial

/-- Part 5 of the body does these events of the plan. -/
theorem part5 (v37 v112 : BitVec 32) :
    Does m c [.ld 2, .lw 1, .rd 1, .rv 1, .st 1, .cp 1, .cw 1]
      (k0_part5 xM hX oM hO iM hI cM hC cc0_scratch2 cc0_scratch3 cc0_scratch4 cc0_scratch5 cc0_scratch6 cc0_scratch7 cc0_scratch8
        cc0_scratch9 c v37 v112) (fun _ => True) := by
  rw [k0_part5_eq_skeleton]
  unfold k0_part5_skel
  refine .cons m (does_ld m c 2 (at1_first c (by decide)) (by rfl) (by rfl)) fun _ _ => ?_
  refine .cons m (does_lw m c 1 (by rfl) (by rfl)) fun _ _ => ?_
  refine .cons m (does_rd m c 1 (by rfl)) fun v hv => ?_
  refine .cons m (does_rv m c 1 (by rfl)) fun _ _ => ?_
  refine .cons m (does_st m c 1 (by rfl) (by subst hv; rfl)) fun _ _ => ?_
  refine .cons m (does_cp m c 1 (at2_first c (by decide) (by decide)) (by rfl) (by rfl)) fun _ _ => ?_
  refine .cons m (does_cw m c 1 (by rfl) (by rfl)) fun _ _ => ?_
  exact .pure m trivial

/-- Part 6 of the body does these events of the plan. -/
theorem part6 (v5 v8 v11 v37 v41 v149 : BitVec 32) :
    Does m c [.mv 1 35, .snd 35, .ld 3]
      (k0_part6 xM hX oM hO iM hI cM hC cc0_scratch2 cc0_scratch3 cc0_scratch4 cc0_scratch5 cc0_scratch6 cc0_scratch7 cc0_scratch8
        cc0_scratch9 c v5 v8 v11 v37 v41 v149) (fun _ => True) := by
  rw [k0_part6_eq_skeleton]
  unfold k0_part6_skel
  refine .ghost m (ghost_mv m c 1 35) ?_
  refine .cons m (does_snd m c 35 (at2_first c (by decide) (by decide)) (at2_first c (by decide) (by decide)) (at_dev c (by decide +kernel)) (by rfl) (by rfl)) fun _ _ => ?_
  refine .cons m (does_ld m c 3 (at1_first c (by decide)) (by rfl) (by rfl)) fun _ _ => ?_
  exact .pure m trivial

/-- Part 7 of the body does these events of the plan. -/
theorem part7 (v5 v11 v37 v167 : BitVec 32) :
    Does m c [.lw 2, .rd 2, .rv 2, .st 2, .cp 2, .cw 2]
      (k0_part7 xM hX oM hO iM hI cM hC cc0_scratch2 cc0_scratch3 cc0_scratch4 cc0_scratch5 cc0_scratch6 cc0_scratch7 cc0_scratch8
        cc0_scratch9 c v5 v11 v37 v167) (fun _ => True) := by
  rw [k0_part7_eq_skeleton]
  unfold k0_part7_skel
  refine .cons m (does_lw m c 2 (by rfl) (by rfl)) fun _ _ => ?_
  refine .cons m (does_rd m c 2 (by rfl)) fun v hv => ?_
  refine .cons m (does_rv m c 2 (by rfl)) fun _ _ => ?_
  refine .cons m (does_st m c 2 (by rfl) (by subst hv; rfl)) fun _ _ => ?_
  refine .cons m (does_cp m c 2 (at2_first c (by decide) (by decide)) (by rfl) (by rfl)) fun _ _ => ?_
  refine .cons m (does_cw m c 2 (by rfl) (by rfl)) fun _ _ => ?_
  exact .pure m trivial

/-- Part 8 of the body does these events of the plan. -/
theorem part8 (v8 v41 v209 c1_i32_174 : BitVec 32) :
    Does m c [.mv 2 36, .snd 36, .ld 4, .lw 3, .rd 3]
      (k0_part8 xM hX oM hO iM hI cM hC cc0_scratch2 cc0_scratch3 cc0_scratch4 cc0_scratch5 cc0_scratch6 cc0_scratch7 cc0_scratch8
        cc0_scratch9 c v8 v41 v209 c1_i32_174) (fun a => a.2 = k0_pay4 (xval m c 3)) := by
  rw [k0_part8_eq_skeleton]
  unfold k0_part8_skel
  refine .ghost m (ghost_mv m c 2 36) ?_
  refine .cons m (does_snd m c 36 (at2_first c (by decide) (by decide)) (at2_first c (by decide) (by decide)) (at_dev c (by decide +kernel)) (by rfl) (by rfl)) fun _ _ => ?_
  refine .cons m (does_ld m c 4 (at1_first c (by decide)) (by rfl) (by rfl)) fun _ _ => ?_
  refine .cons m (does_lw m c 3 (by rfl) (by rfl)) fun _ _ => ?_
  refine .cons m (does_rd m c 3 (by rfl)) fun v hv => ?_
  exact .pure m (by subst hv; rfl)

/-- Part 9 of the body does these events of the plan. -/
theorem part9 (v5 v8 v11 v37 v222 : BitVec 32) {v240 : FVec F S256x1024 .f32} (hv : v240 = k0_pay4 (xval m c 3)) :
    Does m c [.rv 3, .st 3, .cp 3, .cw 3, .mv 3 37, .snd 37]
      (k0_part9 xM hX oM hO iM hI cM hC cc0_scratch2 cc0_scratch3 cc0_scratch4 cc0_scratch5 cc0_scratch6 cc0_scratch7 cc0_scratch8
        cc0_scratch9 c v5 v8 v11 v37 v222 v240) (fun _ => True) := by
  rw [k0_part9_eq_skeleton]
  unfold k0_part9_skel
  refine .cons m (does_rv m c 3 (by rfl)) fun _ _ => ?_
  refine .cons m (does_st m c 3 (by rfl) (by subst hv; rfl)) fun _ _ => ?_
  refine .cons m (does_cp m c 3 (at2_first c (by decide) (by decide)) (by rfl) (by rfl)) fun _ _ => ?_
  refine .cons m (does_cw m c 3 (by rfl) (by rfl)) fun _ _ => ?_
  refine .ghost m (ghost_mv m c 3 37) ?_
  refine .cons m (does_snd m c 37 (at2_first c (by decide) (by decide)) (at2_first c (by decide) (by decide)) (at_dev c (by decide +kernel)) (by rfl) (by rfl)) fun _ _ => ?_
  exact .pure m trivial

/-- Part 10 of the body does these events of the plan. -/
theorem part10 (v37 v41 : BitVec 32) :
    Does m c [.ld 5, .lw 4, .rd 4, .rv 4, .st 4]
      (k0_part10 xM hX oM hO iM hI cM hC cc0_scratch2 cc0_scratch3 cc0_scratch4 cc0_scratch5 cc0_scratch6 cc0_scratch7 cc0_scratch8
        cc0_scratch9 c v37 v41) (fun _ => True) := by
  rw [k0_part10_eq_skeleton]
  unfold k0_part10_skel
  refine .cons m (does_ld m c 5 (at1_first c (by decide)) (by rfl) (by rfl)) fun _ _ => ?_
  refine .cons m (does_lw m c 4 (by rfl) (by rfl)) fun _ _ => ?_
  refine .cons m (does_rd m c 4 (by rfl)) fun v hv => ?_
  refine .cons m (does_rv m c 4 (by rfl)) fun _ _ => ?_
  refine .cons m (does_st m c 4 (by rfl) (by subst hv; rfl)) fun _ _ => ?_
  exact .pure m trivial

/-- Part 11 of the body does these events of the plan. -/
theorem part11 (v5 v8 v11 v37 v41 v277 : BitVec 32) :
    Does m c [.cp 4, .cw 4, .mv 4 38, .snd 38]
      (k0_part11 xM hX oM hO iM hI cM hC cc0_scratch2 cc0_scratch3 cc0_scratch4 cc0_scratch5 cc0_scratch6 cc0_scratch7 cc0_scratch8
        cc0_scratch9 c v5 v8 v11 v37 v41 v277) (fun _ => True) := by
  rw [k0_part11_eq_skeleton]
  unfold k0_part11_skel
  refine .cons m (does_cp m c 4 (at2_first c (by decide) (by decide)) (by rfl) (by rfl)) fun _ _ => ?_
  refine .cons m (does_cw m c 4 (by rfl) (by rfl)) fun _ _ => ?_
  refine .ghost m (ghost_mv m c 4 38) ?_
  refine .cons m (does_snd m c 38 (at2_first c (by decide) (by decide)) (at2_first c (by decide) (by decide)) (at_dev c (by decide +kernel)) (by rfl) (by rfl)) fun _ _ => ?_
  exact .pure m trivial

/-- Part 12 of the body does these events of the plan. -/
theorem part12 (v37 v41 v332 c0_i32_277 : BitVec 32) :
    Does m c [.ld 6, .lw 5, .rd 5, .rv 5, .st 5, .cp 5]
      (k0_part12 xM hX oM hO iM hI cM hC cc0_scratch2 cc0_scratch3 cc0_scratch4 cc0_scratch5 cc0_scratch6 cc0_scratch7 cc0_scratch8
        cc0_scratch9 c v37 v41 v332 c0_i32_277) (fun _ => True) := by
  rw [k0_part12_eq_skeleton]
  unfold k0_part12_skel
  refine .cons m (does_ld m c 6 (at1_first c (by decide)) (by rfl) (by rfl)) fun _ _ => ?_
  refine .cons m (does_lw m c 5 (by rfl) (by rfl)) fun _ _ => ?_
  refine .cons m (does_rd m c 5 (by rfl)) fun v hv => ?_
  refine .cons m (does_rv m c 5 (by rfl)) fun _ _ => ?_
  refine .cons m (does_st m c 5 (by rfl) (by subst hv; rfl)) fun _ _ => ?_
  refine .cons m (does_cp m c 5 (at2_first c (by decide) (by decide)) (by rfl) (by rfl)) fun _ _ => ?_
  exact .pure m trivial

/-- Part 13 of the body does these events of the plan. -/
theorem part13 (v5 v8 v11 v37 v41 v332 : BitVec 32) :
    Does m c [.cw 5, .mv 5 39, .snd 39, .ld 7]
      (k0_part13 xM hX oM hO iM hI cM hC cc0_scratch2 cc0_scratch3 cc0_scratch4 cc0_scratch5 cc0_scratch6 cc0_scratch7 cc0_scratch8
        cc0_scratch9 c v5 v8 v11 v37 v41 v332) (fun _ => True) := by
  rw [k0_part13_eq_skeleton]
  unfold k0_part13_skel
  refine .cons m (does_cw m c 5 (by rfl) (by rfl)) fun _ _ => ?_
  refine .ghost m (ghost_mv m c 5 39) ?_
  refine .cons m (does_snd m c 39 (at2_first c (by decide) (by decide)) (at2_first c (by decide) (by decide)) (at_dev c (by decide +kernel)) (by rfl) (by rfl)) fun _ _ => ?_
  refine .cons m (does_ld m c 7 (at1_mid c (r := 0) (by decide)) (by rfl) (by rfl)) fun _ _ => ?_
  exact .pure m trivial

/-- Part 14 of the body does these events of the plan. -/
theorem part14 (v11 v37 v387 : BitVec 32) :
    Does m c [.lw 6, .rd 6, .rv 6, .st 6, .cp 6, .cw 6]
      (k0_part14 xM hX oM hO iM hI cM hC cc0_scratch2 cc0_scratch3 cc0_scratch4 cc0_scratch5 cc0_scratch6 cc0_scratch7 cc0_scratch8
        cc0_scratch9 c v11 v37 v387) (fun _ => True) := by
  rw [k0_part14_eq_skeleton]
  unfold k0_part14_skel
  refine .cons m (does_lw m c 6 (by rfl) (by rfl)) fun _ _ => ?_
  refine .cons m (does_rd m c 6 (by rfl)) fun v hv => ?_
  refine .cons m (does_rv m c 6 (by rfl)) fun _ _ => ?_
  refine .cons m (does_st m c 6 (by rfl) (by subst hv; rfl)) fun _ _ => ?_
  refine .cons m (does_cp m c 6 (at2_first c (by decide) (by decide)) (by rfl) (by rfl)) fun _ _ => ?_
  refine .cons m (does_cw m c 6 (by rfl) (by rfl)) fun _ _ => ?_
  exact .pure m trivial

/-- Part 15 of the body does these events of the plan. -/
theorem part15 (v5 v8 v37 v420 c0_i32_357 : BitVec 32) :
    Does m c [.mv 6 40, .snd 40, .ld 8, .lw 7, .rd 7, .rv 7, .st 7]
      (k0_part15 xM hX oM hO iM hI cM hC cc0_scratch2 cc0_scratch3 cc0_scratch4 cc0_scratch5 cc0_scratch6 cc0_scratch7 cc0_scratch8
        cc0_scratch9 c v5 v8 v37 v420 c0_i32_357) (fun _ => True) := by
  rw [k0_part15_eq_skeleton]
  unfold k0_part15_skel
  refine .ghost m (ghost_mv m c 6 40) ?_
  refine .cons m (does_snd m c 40 (at2_first c (by decide) (by decide)) (at2_first c (by decide) (by decide)) (at_dev c (by decide +kernel)) (by rfl) (by rfl)) fun _ _ => ?_
  refine .cons m (does_ld m c 8 (at1_mid c (r := 1) (by decide)) (by rfl) (by rfl)) fun _ _ => ?_
  refine .cons m (does_lw m c 7 (by rfl) (by rfl)) fun _ _ => ?_
  refine .cons m (does_rd m c 7 (by rfl)) fun v hv => ?_
  refine .cons m (does_rv m c 7 (by rfl)) fun _ _ => ?_
  refine .cons m (does_st m c 7 (by rfl) (by subst hv; rfl)) fun _ _ => ?_
  exact .pure m trivial

/-- Part 16 of the body does these events of the plan. -/
theorem part16 (v5 v8 v11 v37 : BitVec 32) :
    Does m c [.cp 7, .cw 7, .mv 7 41, .snd 41, .ld 9]
      (k0_part16 xM hX oM hO iM hI cM hC cc0_scratch2 cc0_scratch3 cc0_scratch4 cc0_scratch5 cc0_scratch6 cc0_scratch7 cc0_scratch8
        cc0_scratch9 c v5 v8 v11 v37) (fun _ => True) := by
  rw [k0_part16_eq_skeleton]
  unfold k0_part16_skel
  refine .cons m (does_cp m c 7 (at3 c (r := 0) (by decide) (by decide)) (by rfl) (by rfl)) fun _ _ => ?_
  refine .cons m (does_cw m c 7 (by rfl) (by rfl)) fun _ _ => ?_
  refine .ghost m (ghost_mv m c 7 41) ?_
  refine .cons m (does_snd m c 41 (at3 c (r := 0) (by decide) (by decide)) (at3 c (r := 0) (by decide) (by decide)) (at_dev c (by decide +kernel)) (by rfl) (by rfl)) fun _ _ => ?_
  refine .cons m (does_ld m c 9 (at1_mid c (r := 2) (by decide)) (by rfl) (by rfl)) fun _ _ => ?_
  exact .pure m trivial

/-- Part 17 of the body does these events of the plan. -/
theorem part17 (v5 v8 v11 v37 : BitVec 32) :
    Does m c [.lw 8, .rd 8, .rv 8, .st 8, .cp 8, .cw 8]
      (k0_part17 xM hX oM hO iM hI cM hC cc0_scratch2 cc0_scratch3 cc0_scratch4 cc0_scratch5 cc0_scratch6 cc0_scratch7 cc0_scratch8
        cc0_scratch9 c v5 v8 v11 v37) (fun _ => True) := by
  rw [k0_part17_eq_skeleton]
  unfold k0_part17_skel
  refine .cons m (does_lw m c 8 (by rfl) (by rfl)) fun _ _ => ?_
  refine .cons m (does_rd m c 8 (by rfl)) fun v hv => ?_
  refine .cons m (does_rv m c 8 (by rfl)) fun _ _ => ?_
  refine .cons m (does_st m c 8 (by rfl) (by subst hv; rfl)) fun _ _ => ?_
  refine .cons m (does_cp m c 8 (at3 c (r := 1) (by decide) (by decide)) (by rfl) (by rfl)) fun _ _ => ?_
  refine .cons m (does_cw m c 8 (by rfl) (by rfl)) fun _ _ => ?_
  exact .pure m trivial

/-- Part 18 of the body does these events of the plan. -/
theorem part18 (v37 : BitVec 32) :
    Does m c [.mv 8 42, .snd 42, .ld 10, .lw 9, .rd 9, .rv 9, .st 9, .cp 9]
      (k0_part18 xM hX oM hO iM hI cM hC cc0_scratch2 cc0_scratch3 cc0_scratch4 cc0_scratch5 cc0_scratch6 cc0_scratch7 cc0_scratch8
        cc0_scratch9 c v37) (fun _ => True) := by
  rw [k0_part18_eq_skeleton]
  unfold k0_part18_skel
  refine .ghost m (ghost_mv m c 8 42) ?_
  refine .cons m (does_snd m c 42 (at3 c (r := 1) (by decide) (by decide)) (at3 c (r := 1) (by decide) (by decide)) (at_dev c (by decide +kernel)) (by rfl) (by rfl)) fun _ _ => ?_
  refine .cons m (does_ld m c 10 (at1_mid c (r := 3) (by decide)) (by rfl) (by rfl)) fun _ _ => ?_
  refine .cons m (does_lw m c 9 (by rfl) (by rfl)) fun _ _ => ?_
  refine .cons m (does_rd m c 9 (by rfl)) fun v hv => ?_
  refine .cons m (does_rv m c 9 (by rfl)) fun _ _ => ?_
  refine .cons m (does_st m c 9 (by rfl) (by subst hv; rfl)) fun _ _ => ?_
  refine .cons m (does_cp m c 9 (at3 c (r := 2) (by decide) (by decide)) (by rfl) (by rfl)) fun _ _ => ?_
  exact .pure m trivial

/-- Part 19 of the body does these events of the plan. -/
theorem part19 (v5 v8 v11 v37 v41 : BitVec 32) :
    Does m c [.cw 9, .mv 9 43, .snd 43, .ld 11]
      (k0_part19 xM hX oM hO iM hI cM hC cc0_scratch2 cc0_scratch3 cc0_scratch4 cc0_scratch5 cc0_scratch6 cc0_scratch7 cc0_scratch8
        cc0_scratch9 c v5 v8 v11 v37 v41) (fun _ => True) := by
  rw [k0_part19_eq_skeleton]
  unfold k0_part19_skel
  refine .cons m (does_cw m c 9 (by rfl) (by rfl)) fun _ _ => ?_
  refine .ghost m (ghost_mv m c 9 43) ?_
  refine .cons m (does_snd m c 43 (at3 c (r := 2) (by decide) (by decide)) (at3 c (r := 2) (by decide) (by decide)) (at_dev c (by decide +kernel)) (by rfl) (by rfl)) fun _ _ => ?_
  refine .cons m (does_ld m c 11 (at1_later c (by decide) (by decide) (by decide)) (by rfl) (by rfl)) fun _ _ => ?_
  exact .pure m trivial

/-- Part 20 of the body does these events of the plan. -/
theorem part20 (v5 v11 v37 : BitVec 32) :
    Does m c [.lw 10, .rd 10, .rv 10, .st 10, .cp 10, .cw 10]
      (k0_part20 xM hX oM hO iM hI cM hC cc0_scratch2 cc0_scratch3 cc0_scratch4 cc0_scratch5 cc0_scratch6 cc0_scratch7 cc0_scratch8
        cc0_scratch9 c v5 v11 v37) (fun _ => True) := by
  rw [k0_part20_eq_skeleton]
  unfold k0_part20_skel
  refine .cons m (does_lw m c 10 (by rfl) (by rfl)) fun _ _ => ?_
  refine .cons m (does_rd m c 10 (by rfl)) fun v hv => ?_
  refine .cons m (does_rv m c 10 (by rfl)) fun _ _ => ?_
  refine .cons m (does_st m c 10 (by rfl) (by subst hv; rfl)) fun _ _ => ?_
  refine .cons m (does_cp m c 10 (at3 c (r := 3) (by decide) (by decide)) (by rfl) (by rfl)) fun _ _ => ?_
  refine .cons m (does_cw m c 10 (by rfl) (by rfl)) fun _ _ => ?_
  exact .pure m trivial

/-- Part 21 of the body does these events of the plan. -/
theorem part21 (v8 v39 v41 v593 c1_i32_515 : BitVec 32) :
    Does m c [.mv 10 44, .snd 44]
      (k0_part21 xM hX oM hO iM hI cM hC cc0_scratch2 cc0_scratch3 cc0_scratch4 cc0_scratch5 cc0_scratch6 cc0_scratch7 cc0_scratch8
        cc0_scratch9 c v8 v39 v41 v593 c1_i32_515) (fun _ => True) := by
  rw [k0_part21_eq_skeleton]
  unfold k0_part21_skel
  refine .ghost m (ghost_mv m c 10 44) ?_
  refine .cons m (does_snd m c 44 (at3 c (r := 3) (by decide) (by decide)) (at3 c (r := 3) (by decide) (by decide)) (at_dev c (by decide +kernel)) (by rfl) (by rfl)) fun _ _ => ?_
  exact .pure m trivial

/-- Part 22 of the body does these events of the plan. -/
theorem part22 (v9 v10 v39 v41 v627 : BitVec 32) :
    Does m c []
      (k0_part22 xM hX oM hO iM hI cM hC cc0_scratch2 cc0_scratch3 cc0_scratch4 cc0_scratch5 cc0_scratch6 cc0_scratch7 cc0_scratch8
        cc0_scratch9 v9 v10 v39 v41 v627) (fun _ => True) := by
  rw [k0_part22_eq_skeleton]
  unfold k0_part22_skel
  exact .pure m trivial

/-- Part 23 of the body does these events of the plan. -/
theorem part23 (v9 v10 v39 v659 c0_i32_568 : BitVec 32) :
    Does m c []
      (k0_part23 xM hX oM hO iM hI cM hC cc0_scratch2 cc0_scratch3 cc0_scratch4 cc0_scratch5 cc0_scratch6 cc0_scratch7 cc0_scratch8
        cc0_scratch9 v9 v10 v39 v659 c0_i32_568) (fun _ => True) := by
  rw [k0_part23_eq_skeleton]
  unfold k0_part23_skel
  exact .pure m trivial

/-- Part 24 of the body does these events of the plan. -/
theorem part24 (v9 v10 v39 : BitVec 32) :
    Does m c []
      (k0_part24 xM hX oM hO iM hI cM hC cc0_scratch2 cc0_scratch3 cc0_scratch4 cc0_scratch5 cc0_scratch6 cc0_scratch7 cc0_scratch8
        cc0_scratch9 v9 v10 v39) (fun _ => True) := by
  rw [k0_part24_eq_skeleton]
  unfold k0_part24_skel
  exact .pure m trivial

/-- Part 25 of the body does these events of the plan. -/
theorem part25 (v9 v10 v39 : BitVec 32) :
    Does m c []
      (k0_part25 xM hX oM hO iM hI cM hC cc0_scratch2 cc0_scratch3 cc0_scratch4 cc0_scratch5 cc0_scratch6 cc0_scratch7 cc0_scratch8
        cc0_scratch9 v9 v10 v39) (fun _ => True) := by
  rw [k0_part25_eq_skeleton]
  unfold k0_part25_skel
  exact .pure m trivial

/-- Part 26 of the body does these events of the plan. -/
theorem part26 (v9 v10 v39 : BitVec 32) :
    Does m c []
      (k0_part26 xM hX oM hO iM hI cM hC cc0_scratch2 cc0_scratch3 cc0_scratch4 cc0_scratch5 cc0_scratch6 cc0_scratch7 cc0_scratch8
        cc0_scratch9 v9 v10 v39) (fun _ => True) := by
  rw [k0_part26_eq_skeleton]
  unfold k0_part26_skel
  exact .pure m trivial

/-- Part 27 of the body does these events of the plan. -/
theorem part27 (v9 v10 v39 v795 v796 : BitVec 32) :
    Does m c []
      (k0_part27 xM hX oM hO iM hI cM hC cc0_scratch2 cc0_scratch3 cc0_scratch4 cc0_scratch5 cc0_scratch6 cc0_scratch7 cc0_scratch8
        cc0_scratch9 v9 v10 v39 v795 v796) (fun _ => True) := by
  rw [k0_part27_eq_skeleton]
  unfold k0_part27_skel
  exact .pure m trivial

/-- Part 28 of the body does these events of the plan. -/
theorem part28 (v39 v41 v829 c2_i32_698 : BitVec 32) :
    Does m c [.ld 12, .lw 11, .rd 11, .rv 11]
      (k0_part28 xM hX oM hO iM hI cM hC cc0_scratch2 cc0_scratch3 cc0_scratch4 cc0_scratch5 cc0_scratch6 cc0_scratch7 cc0_scratch8
        cc0_scratch9 c v39 v41 v829 c2_i32_698) (fun a => a.2 = k0_pay13 (xval m c 11)) := by
  rw [k0_part28_eq_skeleton]
  unfold k0_part28_skel
  refine .cons m (does_ld m c 12 (at1_later c (by decide) (by decide) (by decide)) (by rfl) (by rfl)) fun _ _ => ?_
  refine .cons m (does_lw m c 11 (by rfl) (by rfl)) fun _ _ => ?_
  refine .cons m (does_rd m c 11 (by rfl)) fun v hv => ?_
  refine .cons m (does_rv m c 11 (by rfl)) fun _ _ => ?_
  exact .pure m (by subst hv; rfl)

/-- Part 29 of the body does these events of the plan. -/
theorem part29 (v37 v41 v837 : BitVec 32) {v859 : FVec F S1x256x1024 .bf16} (hv : v859 = k0_pay13 (xval m c 11)) :
    Does m c [.st 11, .cp 11, .ld 13, .lw 12]
      (k0_part29 xM hX oM hO iM hI cM hC cc0_scratch2 cc0_scratch3 cc0_scratch4 cc0_scratch5 cc0_scratch6 cc0_scratch7 cc0_scratch8
        cc0_scratch9 c v37 v41 v837 v859) (fun _ => True) := by
  rw [k0_part29_eq_skeleton]
  unfold k0_part29_skel
  refine .cons m (does_st m c 11 (by rfl) (by subst hv; rfl)) fun _ _ => ?_
  refine .cons m (does_cp m c 11 (at2_later c (by decide) (by decide) (by decide)) (by rfl) (by rfl)) fun _ _ => ?_
  refine .cons m (does_ld m c 13 (at1_later c (by decide) (by decide) (by decide)) (by rfl) (by rfl)) fun _ _ => ?_
  refine .cons m (does_lw m c 12 (by rfl) (by rfl)) fun _ _ => ?_
  exact .pure m trivial

/-- Part 30 of the body does these events of the plan. -/
theorem part30 (v37 v41 v871 : BitVec 32) :
    Does m c [.rd 12, .rv 12, .st 12, .cp 12, .ld 14]
      (k0_part30 xM hX oM hO iM hI cM hC cc0_scratch2 cc0_scratch3 cc0_scratch4 cc0_scratch5 cc0_scratch6 cc0_scratch7 cc0_scratch8
        cc0_scratch9 c v37 v41 v871) (fun _ => True) := by
  rw [k0_part30_eq_skeleton]
  unfold k0_part30_skel
  refine .cons m (does_rd m c 12 (by rfl)) fun v hv => ?_
  refine .cons m (does_rv m c 12 (by rfl)) fun _ _ => ?_
  refine .cons m (does_st m c 12 (by rfl) (by subst hv; rfl)) fun _ _ => ?_
  refine .cons m (does_cp m c 12 (at2_later c (by decide) (by decide) (by decide)) (by rfl) (by rfl)) fun _ _ => ?_
  refine .cons m (does_ld m c 14 (at1_later c (by decide) (by decide) (by decide)) (by rfl) (by rfl)) fun _ _ => ?_
  exact .pure m trivial

/-- Part 31 of the body does these events of the plan. -/
theorem part31 (v5 v8 v11 v37 v905 : BitVec 32) :
    Does m c [.lw 13, .cw 11, .rd 13, .rv 13, .st 13, .cp 13]
      (k0_part31 xM hX oM hO iM hI cM hC cc0_scratch2 cc0_scratch3 cc0_scratch4 cc0_scratch5 cc0_scratch6 cc0_scratch7 cc0_scratch8
        cc0_scratch9 c v5 v8 v11 v37 v905) (fun _ => True) := by
  rw [k0_part31_eq_skeleton]
  unfold k0_part31_skel
  refine .cons m (does_lw m c 13 (by rfl) (by rfl)) fun _ _ => ?_
  refine .cons m (does_cw m c 11 (by rfl) (by rfl)) fun _ _ => ?_
  refine .cons m (does_rd m c 13 (by rfl)) fun v hv => ?_
  refine .cons m (does_rv m c 13 (by rfl)) fun _ _ => ?_
  refine .cons m (does_st m c 13 (by rfl) (by subst hv; rfl)) fun _ _ => ?_
  refine .cons m (does_cp m c 13 (at2_later c (by decide) (by decide) (by decide)) (by rfl) (by rfl)) fun _ _ => ?_
  exact .pure m trivial

/-- Part 32 of the body does these events of the plan. -/
theorem part32 (v2 v5 v8 v14 v17 v39 v41 : BitVec 32) :
    Does m c [.wt 45, .sp 0, .snd 56]
      (k0_part32 xM hX oM hO iM hI cM hC cc0_scratch2 cc0_scratch3 cc0_scratch4 cc0_scratch5 cc0_scratch6 cc0_scratch7 cc0_scratch8
        cc0_scratch9 c v2 v5 v8 v14 v17 v39 v41) (fun _ => True) := by
  rw [k0_part32_eq_skeleton]
  unfold k0_part32_skel
  refine .cons m (does_wt m c 45 (by rfl) (by rfl)) fun _ _ => ?_
  refine .ghost m (ghost_sp m c 0) ?_
  refine .cons m (does_snd m c 56 (at4 c (by decide) (by decide)) (at4 c (by decide) (by decide)) (at_dev c (by decide +kernel)) (by rfl) (by rfl)) fun _ _ => ?_
  exact .pure m trivial

/-- Part 33 of the body does these events of the plan. -/
theorem part33 (v2 v5 v8 v9 v10 v11 v14 v39 : BitVec 32) :
    Does m c [.snd 78, .wt 88, .mv 88 63, .snd 63]
      (k0_part33 xM hX oM hO iM hI cM hC cc0_scratch2 cc0_scratch3 cc0_scratch4 cc0_scratch5 cc0_scratch6 cc0_scratch7 cc0_scratch8
        cc0_scratch9 c v2 v5 v8 v9 v10 v11 v14 v39) (fun _ => True) := by
  rw [k0_part33_eq_skeleton]
  unfold k0_part33_skel
  refine .cons m (does_snd m c 78 (at4 c (by decide) (by decide)) (at4 c (by decide) (by decide)) (at_dev c (by decide +kernel)) (by rfl) (by rfl)) fun _ _ => ?_
  refine .cons m (does_wt m c 88 (by rfl) (by rfl)) fun _ _ => ?_
  refine .ghost m (ghost_mv m c 88 63) ?_
  refine .cons m (does_snd m c 63 (at5 c (by decide)) (at5 c (by decide)) (at_dev c (by decide +kernel)) (by rfl) (by rfl)) fun _ _ => ?_
  exact .pure m trivial

/-- Part 34 of the body does these events of the plan. -/
theorem part34 (v41 c1_i32_854 : BitVec 32) :
    Does m c [.ld 15, .lw 14, .cw 12, .rd 14]
      (k0_part34 xM hX oM hO iM hI cM hC cc0_scratch2 cc0_scratch3 cc0_scratch4 cc0_scratch5 cc0_scratch6 cc0_scratch7 cc0_scratch8
        cc0_scratch9 c v41 c1_i32_854) (fun a => a.2 = k0_pay16 (xval m c 14)) := by
  rw [k0_part34_eq_skeleton]
  unfold k0_part34_skel
  refine .cons m (does_ld m c 15 (at1_later c (by decide) (by decide) (by decide)) (by rfl) (by rfl)) fun _ _ => ?_
  refine .cons m (does_lw m c 14 (by rfl) (by rfl)) fun _ _ => ?_
  refine .cons m (does_cw m c 12 (by rfl) (by rfl)) fun _ _ => ?_
  refine .cons m (does_rd m c 14 (by rfl)) fun v hv => ?_
  exact .pure m (by subst hv; rfl)

/-- Part 35 of the body does these events of the plan. -/
theorem part35 (v37 v41 v1017 : BitVec 32) {v1041 : FVec F S256x1024 .bf16} (hv : v1041 = k0_pay16 (xval m c 14)) :
    Does m c [.rv 14, .st 14, .cp 14, .ld 16]
      (k0_part35 xM hX oM hO iM hI cM hC cc0_scratch2 cc0_scratch3 cc0_scratch4 cc0_scratch5 cc0_scratch6 cc0_scratch7 cc0_scratch8
        cc0_scratch9 c v37 v41 v1017 v1041) (fun _ => True) := by
  rw [k0_part35_eq_skeleton]
  unfold k0_part35_skel
  refine .cons m (does_rv m c 14 (by rfl)) fun _ _ => ?_
  refine .cons m (does_st m c 14 (by rfl) (by subst hv; rfl)) fun _ _ => ?_
  refine .cons m (does_cp m c 14 (at2_later c (by decide) (by decide) (by decide)) (by rfl) (by rfl)) fun _ _ => ?_
  refine .cons m (does_ld m c 16 (at1_later c (by decide) (by decide) (by decide)) (by rfl) (by rfl)) fun _ _ => ?_
  exact .pure m trivial

/-- Part 36 of the body does these events of the plan. -/
theorem part36 (v37 v41 v1056 : BitVec 32) :
    Does m c [.lw 15, .cw 13, .rd 15, .rv 15, .st 15, .cp 15]
      (k0_part36 xM hX oM hO iM hI cM hC cc0_scratch2 cc0_scratch3 cc0_scratch4 cc0_scratch5 cc0_scratch6 cc0_scratch7 cc0_scratch8
        cc0_scratch9 c v37 v41 v1056) (fun _ => True) := by
  rw [k0_part36_eq_skeleton]
  unfold k0_part36_skel
  refine .cons m (does_lw m c 15 (by rfl) (by rfl)) fun _ _ => ?_
  refine .cons m (does_cw m c 13 (by rfl) (by rfl)) fun _ _ => ?_
  refine .cons m (does_rd m c 15 (by rfl)) fun v hv => ?_
  refine .cons m (does_rv m c 15 (by rfl)) fun _ _ => ?_
  refine .cons m (does_st m c 15 (by rfl) (by subst hv; rfl)) fun _ _ => ?_
  refine .cons m (does_cp m c 15 (at2_later c (by decide) (by decide) (by decide)) (by rfl) (by rfl)) fun _ _ => ?_
  exact .pure m trivial

/-- Part 37 of the body does these events of the plan. -/
theorem part37 (v37 v1095 v1098 c4_i32_936 : BitVec 32) :
    Does m c [.ld 17, .lw 16, .cw 14, .rd 16, .rv 16, .st 16]
      (k0_part37 xM hX oM hO iM hI cM hC cc0_scratch2 cc0_scratch3 cc0_scratch4 cc0_scratch5 cc0_scratch6 cc0_scratch7 cc0_scratch8
        cc0_scratch9 c v37 v1095 v1098 c4_i32_936) (fun _ => True) := by
  rw [k0_part37_eq_skeleton]
  unfold k0_part37_skel
  refine .cons m (does_ld m c 17 (at1_later c (by decide) (by decide) (by decide)) (by rfl) (by rfl)) fun _ _ => ?_
  refine .cons m (does_lw m c 16 (by rfl) (by rfl)) fun _ _ => ?_
  refine .cons m (does_cw m c 14 (by rfl) (by rfl)) fun _ _ => ?_
  refine .cons m (does_rd m c 16 (by rfl)) fun v hv => ?_
  refine .cons m (does_rv m c 16 (by rfl)) fun _ _ => ?_
  refine .cons m (does_st m c 16 (by rfl) (by subst hv; rfl)) fun _ _ => ?_
  exact .pure m trivial

/-- Part 38 of the body does these events of the plan. -/
theorem part38 (v2 v5 v8 v11 v14 v39 v41 : BitVec 32) :
    Does m c [.cp 16, .wt 46, .sp 1, .snd 57]
      (k0_part38 xM hX oM hO iM hI cM hC cc0_scratch2 cc0_scratch3 cc0_scratch4 cc0_scratch5 cc0_scratch6 cc0_scratch7 cc0_scratch8
        cc0_scratch9 c v2 v5 v8 v11 v14 v39 v41) (fun _ => True) := by
  rw [k0_part38_eq_skeleton]
  unfold k0_part38_skel
  refine .cons m (does_cp m c 16 (at2_later c (by decide) (by decide) (by decide)) (by rfl) (by rfl)) fun _ _ => ?_
  refine .cons m (does_wt m c 46 (by rfl) (by rfl)) fun _ _ => ?_
  refine .ghost m (ghost_sp m c 1) ?_
  refine .cons m (does_snd m c 57 (at4 c (by decide) (by decide)) (at4 c (by decide) (by decide)) (at_dev c (by decide +kernel)) (by rfl) (by rfl)) fun _ _ => ?_
  exact .pure m trivial

/-- Part 39 of the body does these events of the plan. -/
theorem part39 (v2 v5 v8 v9 v10 v11 v17 v39 v1159 : BitVec 32) :
    Does m c [.snd 79, .wt 89]
      (k0_part39 xM hX oM hO iM hI cM hC cc0_scratch2 cc0_scratch3 cc0_scratch4 cc0_scratch5 cc0_scratch6 cc0_scratch7 cc0_scratch8
        cc0_scratch9 c v2 v5 v8 v9 v10 v11 v17 v39 v1159) (fun _ => True) := by
  rw [k0_part39_eq_skeleton]
  unfold k0_part39_skel
  refine .cons m (does_snd m c 79 (at4 c (by decide) (by decide)) (at4 c (by decide) (by decide)) (at_dev c (by decide +kernel)) (by rfl) (by rfl)) fun _ _ => ?_
  refine .cons m (does_wt m c 89 (by rfl) (by rfl)) fun _ _ => ?_
  exact .pure m trivial

/-- Part 40 of the body does these events of the plan. -/
theorem part40 (v8 v14 v41 v1191 c0_i32_1014 : BitVec 32) :
    Does m c [.mv 89 64, .snd 64, .ld 18, .lw 17]
      (k0_part40 xM hX oM hO iM hI cM hC cc0_scratch2 cc0_scratch3 cc0_scratch4 cc0_scratch5 cc0_scratch6 cc0_scratch7 cc0_scratch8
        cc0_scratch9 c v8 v14 v41 v1191 c0_i32_1014) (fun _ => True) := by
  rw [k0_part40_eq_skeleton]
  unfold k0_part40_skel
  refine .ghost m (ghost_mv m c 89 64) ?_
  refine .cons m (does_snd m c 64 (at5 c (by decide)) (at5 c (by decide)) (at_dev c (by decide +kernel)) (by rfl) (by rfl)) fun _ _ => ?_
  refine .cons m (does_ld m c 18 (at1_later c (by decide) (by decide) (by decide)) (by rfl) (by rfl)) fun _ _ => ?_
  refine .cons m (does_lw m c 17 (by rfl) (by rfl)) fun _ _ => ?_
  exact .pure m trivial

/-- Part 41 of the body does these events of the plan. -/
theorem part41 (v37 v41 v1207 : BitVec 32) :
    Does m c [.cw 15, .rd 17, .rv 17, .st 17, .cp 17]
      (k0_part41 xM hX oM hO iM hI cM hC cc0_scratch2 cc0_scratch3 cc0_scratch4 cc0_scratch5 cc0_scratch6 cc0_scratch7 cc0_scratch8
        cc0_scratch9 c v37 v41 v1207) (fun _ => True) := by
  rw [k0_part41_eq_skeleton]
  unfold k0_part41_skel
  refine .cons m (does_cw m c 15 (by rfl) (by rfl)) fun _ _ => ?_
  refine .cons m (does_rd m c 17 (by rfl)) fun v hv => ?_
  refine .cons m (does_rv m c 17 (by rfl)) fun _ _ => ?_
  refine .cons m (does_st m c 17 (by rfl) (by subst hv; rfl)) fun _ _ => ?_
  refine .cons m (does_cp m c 17 (at2_later c (by decide) (by decide) (by decide)) (by rfl) (by rfl)) fun _ _ => ?_
  exact .pure m trivial

/-- Part 42 of the body does these events of the plan. -/
theorem part42 (v37 v1246 : BitVec 32) :
    Does m c [.ld 19, .lw 18, .cw 16, .rd 18, .rv 18, .st 18, .cp 18]
      (k0_part42 xM hX oM hO iM hI cM hC cc0_scratch2 cc0_scratch3 cc0_scratch4 cc0_scratch5 cc0_scratch6 cc0_scratch7 cc0_scratch8
        cc0_scratch9 c v37 v1246) (fun _ => True) := by
  rw [k0_part42_eq_skeleton]
  unfold k0_part42_skel
  refine .cons m (does_ld m c 19 (at1_later c (by decide) (by decide) (by decide)) (by rfl) (by rfl)) fun _ _ => ?_
  refine .cons m (does_lw m c 18 (by rfl) (by rfl)) fun _ _ => ?_
  refine .cons m (does_cw m c 16 (by rfl) (by rfl)) fun _ _ => ?_
  refine .cons m (does_rd m c 18 (by rfl)) fun v hv => ?_
  refine .cons m (does_rv m c 18 (by rfl)) fun _ _ => ?_
  refine .cons m (does_st m c 18 (by rfl) (by subst hv; rfl)) fun _ _ => ?_
  refine .cons m (does_cp m c 18 (at2_later c (by decide) (by decide) (by decide)) (by rfl) (by rfl)) fun _ _ => ?_
  exact .pure m trivial

/-- Part 43 of the body does these events of the plan. -/
theorem part43 (v41 : BitVec 32) :
    Does m c [.ld 20, .lw 19, .cw 17, .rd 19]
      (k0_part43 xM hX oM hO iM hI cM hC cc0_scratch2 cc0_scratch3 cc0_scratch4 cc0_scratch5 cc0_scratch6 cc0_scratch7 cc0_scratch8
        cc0_scratch9 c v41) (fun a => a.2 = k0_pay22 (xval m c 19)) := by
  rw [k0_part43_eq_skeleton]
  unfold k0_part43_skel
  refine .cons m (does_ld m c 20 (at1_later c (by decide) (by decide) (by decide)) (by rfl) (by rfl)) fun _ _ => ?_
  refine .cons m (does_lw m c 19 (by rfl) (by rfl)) fun _ _ => ?_
  refine .cons m (does_cw m c 17 (by rfl) (by rfl)) fun _ _ => ?_
  refine .cons m (does_rd m c 19 (by rfl)) fun v hv => ?_
  exact .pure m (by subst hv; rfl)

/-- Part 44 of the body does these events of the plan. -/
theorem part44 (v2 v5 v8 v11 v37 v39 v41 v1285 : BitVec 32) {v1308 : FVec F S256x1024 .f32} (hv : v1308 = k0_pay22 (xval m c 19)) :
    Does m c [.rv 19, .st 19, .cp 19, .wt 47]
      (k0_part44 xM hX oM hO iM hI cM hC cc0_scratch2 cc0_scratch3 cc0_scratch4 cc0_scratch5 cc0_scratch6 cc0_scratch7 cc0_scratch8
        cc0_scratch9 c v2 v5 v8 v11 v37 v39 v41 v1285 v1308) (fun _ => True) := by
  rw [k0_part44_eq_skeleton]
  unfold k0_part44_skel
  refine .cons m (does_rv m c 19 (by rfl)) fun _ _ => ?_
  refine .cons m (does_st m c 19 (by rfl) (by subst hv; rfl)) fun _ _ => ?_
  refine .cons m (does_cp m c 19 (at2_later c (by decide) (by decide) (by decide)) (by rfl) (by rfl)) fun _ _ => ?_
  refine .cons m (does_wt m c 47 (by rfl) (by rfl)) fun _ _ => ?_
  exact .pure m trivial

/-- Part 45 of the body does these events of the plan. -/
theorem part45 (v2 v5 v8 v9 v11 v14 v17 v39 v1334 v1338 : BitVec 32) :
    Does m c [.sp 2, .snd 58, .snd 80, .wt 90]
      (k0_part45 xM hX oM hO iM hI cM hC cc0_scratch2 cc0_scratch3 cc0_scratch4 cc0_scratch5 cc0_scratch6 cc0_scratch7 cc0_scratch8
        cc0_scratch9 c v2 v5 v8 v9 v11 v14 v17 v39 v1334 v1338) (fun _ => True) := by
  rw [k0_part45_eq_skeleton]
  unfold k0_part45_skel
  refine .ghost m (ghost_sp m c 2) ?_
  refine .cons m (does_snd m c 58 (at4 c (by decide) (by decide)) (at4 c (by decide) (by decide)) (at_dev c (by decide +kernel)) (by rfl) (by rfl)) fun _ _ => ?_
  refine .cons m (does_snd m c 80 (at4 c (by decide) (by decide)) (at4 c (by decide) (by decide)) (at_dev c (by decide +kernel)) (by rfl) (by rfl)) fun _ _ => ?_
  refine .cons m (does_wt m c 90 (by rfl) (by rfl)) fun _ _ => ?_
  exact .pure m trivial

/-- Part 46 of the body does these events of the plan. -/
theorem part46 (v2 v8 v10 v14 v39 v41 v1373 : BitVec 32) :
    Does m c [.mv 90 65, .snd 65]
      (k0_part46 xM hX oM hO iM hI cM hC cc0_scratch2 cc0_scratch3 cc0_scratch4 cc0_scratch5 cc0_scratch6 cc0_scratch7 cc0_scratch8
        cc0_scratch9 c v2 v8 v10 v14 v39 v41 v1373) (fun _ => True) := by
  rw [k0_part46_eq_skeleton]
  unfold k0_part46_skel
  refine .ghost m (ghost_mv m c 90 65) ?_
  refine .cons m (does_snd m c 65 (at5 c (by decide)) (at5 c (by decide)) (at_dev c (by decide +kernel)) (by rfl) (by rfl)) fun _ _ => ?_
  exact .pure m trivial

/-- Part 47 of the body does these events of the plan. -/
theorem part47 (v37 v41 v1397 : BitVec 32) :
    Does m c [.ld 21, .lw 20, .cw 18, .rd 20, .rv 20, .st 20, .cp 20]
      (k0_part47 xM hX oM hO iM hI cM hC cc0_scratch2 cc0_scratch3 cc0_scratch4 cc0_scratch5 cc0_scratch6 cc0_scratch7 cc0_scratch8
        cc0_scratch9 c v37 v41 v1397) (fun _ => True) := by
  rw [k0_part47_eq_skeleton]
  unfold k0_part47_skel
  refine .cons m (does_ld m c 21 (at1_later c (by decide) (by decide) (by decide)) (by rfl) (by rfl)) fun _ _ => ?_
  refine .cons m (does_lw m c 20 (by rfl) (by rfl)) fun _ _ => ?_
  refine .cons m (does_cw m c 18 (by rfl) (by rfl)) fun _ _ => ?_
  refine .cons m (does_rd m c 20 (by rfl)) fun v hv => ?_
  refine .cons m (does_rv m c 20 (by rfl)) fun _ _ => ?_
  refine .cons m (does_st m c 20 (by rfl) (by subst hv; rfl)) fun _ _ => ?_
  refine .cons m (does_cp m c 20 (at2_later c (by decide) (by decide) (by decide)) (by rfl) (by rfl)) fun _ _ => ?_
  exact .pure m trivial

/-- Part 48 of the body does these events of the plan. -/
theorem part48 (v41 v1433 c7_i32_1222 : BitVec 32) :
    Does m c [.ld 22, .lw 21, .cw 19, .rd 21, .rv 21]
      (k0_part48 xM hX oM hO iM hI cM hC cc0_scratch2 cc0_scratch3 cc0_scratch4 cc0_scratch5 cc0_scratch6 cc0_scratch7 cc0_scratch8
        cc0_scratch9 c v41 v1433 c7_i32_1222) (fun a => a.2.1 = k0_pay25 (xval m c 21)) := by
  rw [k0_part48_eq_skeleton]
  unfold k0_part48_skel
  refine .cons m (does_ld m c 22 (at1_later c (by decide) (by decide) (by decide)) (by rfl) (by rfl)) fun _ _ => ?_
  refine .cons m (does_lw m c 21 (by rfl) (by rfl)) fun _ _ => ?_
  refine .cons m (does_cw m c 19 (by rfl) (by rfl)) fun _ _ => ?_
  refine .cons m (does_rd m c 21 (by rfl)) fun v hv => ?_
  refine .cons m (does_rv m c 21 (by rfl)) fun _ _ => ?_
  exact .pure m (by subst hv; rfl)

/-- Part 49 of the body does these events of the plan. -/
theorem part49 (v37 v41 v1436 : BitVec 32) {v1460 : FVec F S256x1024 .bf16} (hv : v1460 = k0_pay25 (xval m c 21)) {v1461 : Vec F S1x256x1024 .bf16} :
    Does m c [.st 21, .cp 21, .ld 23]
      (k0_part49 xM hX oM hO iM hI cM hC cc0_scratch2 cc0_scratch3 cc0_scratch4 cc0_scratch5 cc0_scratch6 cc0_scratch7 cc0_scratch8
        cc0_scratch9 c v37 v41 v1436 v1460 v1461) (fun _ => True) := by
  rw [k0_part49_eq_skeleton]
  unfold k0_part49_skel
  refine .cons m (does_st m c 21 (by rfl) (by subst hv; rfl)) fun _ _ => ?_
  refine .cons m (does_cp m c 21 (at2_later c (by decide) (by decide) (by decide)) (by rfl) (by rfl)) fun _ _ => ?_
  refine .cons m (does_ld m c 23 (at1_later c (by decide) (by decide) (by decide)) (by rfl) (by rfl)) fun _ _ => ?_
  exact .pure m trivial

/-- Part 50 of the body does these events of the plan. -/
theorem part50 (v5 v8 v11 v37 v41 v1475 : BitVec 32) :
    Does m c [.lw 22, .cw 20, .rd 22, .rv 22, .st 22, .cp 22, .wt 48]
      (k0_part50 xM hX oM hO iM hI cM hC cc0_scratch2 cc0_scratch3 cc0_scratch4 cc0_scratch5 cc0_scratch6 cc0_scratch7 cc0_scratch8
        cc0_scratch9 c v5 v8 v11 v37 v41 v1475) (fun _ => True) := by
  rw [k0_part50_eq_skeleton]
  unfold k0_part50_skel
  refine .cons m (does_lw m c 22 (by rfl) (by rfl)) fun _ _ => ?_
  refine .cons m (does_cw m c 20 (by rfl) (by rfl)) fun _ _ => ?_
  refine .cons m (does_rd m c 22 (by rfl)) fun v hv => ?_
  refine .cons m (does_rv m c 22 (by rfl)) fun _ _ => ?_
  refine .cons m (does_st m c 22 (by rfl) (by subst hv; rfl)) fun _ _ => ?_
  refine .cons m (does_cp m c 22 (at2_later c (by decide) (by decide) (by decide)) (by rfl) (by rfl)) fun _ _ => ?_
  refine .cons m (does_wt m c 48 (by rfl) (by rfl)) fun _ _ => ?_
  exact .pure m trivial

/-- Part 51 of the body does these events of the plan. -/
theorem part51 (v2 v5 v8 v11 v14 v17 v39 v1520 : BitVec 32) :
    Does m c [.sp 3, .snd 59, .snd 81]
      (k0_part51 xM hX oM hO iM hI cM hC cc0_scratch2 cc0_scratch3 cc0_scratch4 cc0_scratch5 cc0_scratch6 cc0_scratch7 cc0_scratch8
        cc0_scratch9 c v2 v5 v8 v11 v14 v17 v39 v1520) (fun _ => True) := by
  rw [k0_part51_eq_skeleton]
  unfold k0_part51_skel
  refine .ghost m (ghost_sp m c 3) ?_
  refine .cons m (does_snd m c 59 (at4 c (by decide) (by decide)) (at4 c (by decide) (by decide)) (at_dev c (by decide +kernel)) (by rfl) (by rfl)) fun _ _ => ?_
  refine .cons m (does_snd m c 81 (at4 c (by decide) (by decide)) (at4 c (by decide) (by decide)) (at_dev c (by decide +kernel)) (by rfl) (by rfl)) fun _ _ => ?_
  exact .pure m trivial

/-- Part 52 of the body does these events of the plan. -/
theorem part52 (v2 v5 v8 v9 v10 v14 v39 v41 v1553 : BitVec 32) :
    Does m c [.wt 91, .mv 91 66, .snd 66]
      (k0_part52 xM hX oM hO iM hI cM hC cc0_scratch2 cc0_scratch3 cc0_scratch4 cc0_scratch5 cc0_scratch6 cc0_scratch7 cc0_scratch8
        cc0_scratch9 c v2 v5 v8 v9 v10 v14 v39 v41 v1553) (fun _ => True) := by
  rw [k0_part52_eq_skeleton]
  unfold k0_part52_skel
  refine .cons m (does_wt m c 91 (by rfl) (by rfl)) fun _ _ => ?_
  refine .ghost m (ghost_mv m c 91 66) ?_
  refine .cons m (does_snd m c 66 (at5 c (by decide)) (at5 c (by decide)) (at_dev c (by decide +kernel)) (by rfl) (by rfl)) fun _ _ => ?_
  exact .pure m trivial

/-- Part 53 of the body does these events of the plan. -/
theorem part53 (v41 v1587 : BitVec 32) :
    Does m c [.ld 24, .lw 23, .cw 21, .rd 23, .rv 23, .st 23]
      (k0_part53 xM hX oM hO iM hI cM hC cc0_scratch2 cc0_scratch3 cc0_scratch4 cc0_scratch5 cc0_scratch6 cc0_scratch7 cc0_scratch8
        cc0_scratch9 c v41 v1587) (fun _ => True) := by
  rw [k0_part53_eq_skeleton]
  unfold k0_part53_skel
  refine .cons m (does_ld m c 24 (at1_later c (by decide) (by decide) (by decide)) (by rfl) (by rfl)) fun _ _ => ?_
  refine .cons m (does_lw m c 23 (by rfl) (by rfl)) fun _ _ => ?_
  refine .cons m (does_cw m c 21 (by rfl) (by rfl)) fun _ _ => ?_
  refine .cons m (does_rd m c 23 (by rfl)) fun v hv => ?_
  refine .cons m (does_rv m c 23 (by rfl)) fun _ _ => ?_
  refine .cons m (does_st m c 23 (by rfl) (by subst hv; rfl)) fun _ _ => ?_
  exact .pure m trivial

/-- Part 54 of the body does these events of the plan. -/
theorem part54 (v37 v41 v1615 : BitVec 32) :
    Does m c [.cp 23, .ld 25, .lw 24]
      (k0_part54 xM hX oM hO iM hI cM hC cc0_scratch2 cc0_scratch3 cc0_scratch4 cc0_scratch5 cc0_scratch6 cc0_scratch7 cc0_scratch8
        cc0_scratch9 c v37 v41 v1615) (fun _ => True) := by
  rw [k0_part54_eq_skeleton]
  unfold k0_part54_skel
  refine .cons m (does_cp m c 23 (at2_later c (by decide) (by decide) (by decide)) (by rfl) (by rfl)) fun _ _ => ?_
  refine .cons m (does_ld m c 25 (at1_later c (by decide) (by decide) (by decide)) (by rfl) (by rfl)) fun _ _ => ?_
  refine .cons m (does_lw m c 24 (by rfl) (by rfl)) fun _ _ => ?_
  exact .pure m trivial

/-- Part 55 of the body does these events of the plan. -/
theorem part55 (v37 v41 v1626 : BitVec 32) :
    Does m c [.cw 22, .rd 24, .rv 24, .st 24, .cp 24]
      (k0_part55 xM hX oM hO iM hI cM hC cc0_scratch2 cc0_scratch3 cc0_scratch4 cc0_scratch5 cc0_scratch6 cc0_scratch7 cc0_scratch8
        cc0_scratch9 c v37 v41 v1626) (fun _ => True) := by
  rw [k0_part55_eq_skeleton]
  unfold k0_part55_skel
  refine .cons m (does_cw m c 22 (by rfl) (by rfl)) fun _ _ => ?_
  refine .cons m (does_rd m c 24 (by rfl)) fun v hv => ?_
  refine .cons m (does_rv m c 24 (by rfl)) fun _ _ => ?_
  refine .cons m (does_st m c 24 (by rfl) (by subst hv; rfl)) fun _ _ => ?_
  refine .cons m (does_cp m c 24 (at2_later c (by decide) (by decide) (by decide)) (by rfl) (by rfl)) fun _ _ => ?_
  exact .pure m trivial

/-- Part 56 of the body does these events of the plan. -/
theorem part56 (v11 v37 v1665 : BitVec 32) :
    Does m c [.ld 26, .lw 25, .cw 23, .rd 25, .rv 25, .st 25, .cp 25]
      (k0_part56 xM hX oM hO iM hI cM hC cc0_scratch2 cc0_scratch3 cc0_scratch4 cc0_scratch5 cc0_scratch6 cc0_scratch7 cc0_scratch8
        cc0_scratch9 c v11 v37 v1665) (fun _ => True) := by
  rw [k0_part56_eq_skeleton]
  unfold k0_part56_skel
  refine .cons m (does_ld m c 26 (at1_later c (by decide) (by decide) (by decide)) (by rfl) (by rfl)) fun _ _ => ?_
  refine .cons m (does_lw m c 25 (by rfl) (by rfl)) fun _ _ => ?_
  refine .cons m (does_cw m c 23 (by rfl) (by rfl)) fun _ _ => ?_
  refine .cons m (does_rd m c 25 (by rfl)) fun v hv => ?_
  refine .cons m (does_rv m c 25 (by rfl)) fun _ _ => ?_
  refine .cons m (does_st m c 25 (by rfl) (by subst hv; rfl)) fun _ _ => ?_
  refine .cons m (does_cp m c 25 (at2_later c (by decide) (by decide) (by decide)) (by rfl) (by rfl)) fun _ _ => ?_
  exact .pure m trivial

/-- Part 57 of the body does these events of the plan. -/
theorem part57 (v2 v5 v8 v14 v39 v41 v1700 : BitVec 32) :
    Does m c [.wt 49, .sp 4, .snd 60]
      (k0_part57 xM hX oM hO iM hI cM hC cc0_scratch2 cc0_scratch3 cc0_scratch4 cc0_scratch5 cc0_scratch6 cc0_scratch7 cc0_scratch8
        cc0_scratch9 c v2 v5 v8 v14 v39 v41 v1700) (fun _ => True) := by
  rw [k0_part57_eq_skeleton]
  unfold k0_part57_skel
  refine .cons m (does_wt m c 49 (by rfl) (by rfl)) fun _ _ => ?_
  refine .ghost m (ghost_sp m c 4) ?_
  refine .cons m (does_snd m c 60 (at4 c (by decide) (by decide)) (at4 c (by decide) (by decide)) (at_dev c (by decide +kernel)) (by rfl) (by rfl)) fun _ _ => ?_
  exact .pure m trivial

/-- Part 58 of the body does these events of the plan. -/
theorem part58 (v2 v5 v8 v9 v10 v11 v17 v39 v1732 v1733 : BitVec 32) :
    Does m c [.snd 82, .wt 71]
      (k0_part58 xM hX oM hO iM hI cM hC cc0_scratch2 cc0_scratch3 cc0_scratch4 cc0_scratch5 cc0_scratch6 cc0_scratch7 cc0_scratch8
        cc0_scratch9 c v2 v5 v8 v9 v10 v11 v17 v39 v1732 v1733) (fun _ => True) := by
  rw [k0_part58_eq_skeleton]
  unfold k0_part58_skel
  refine .cons m (does_snd m c 82 (at4 c (by decide) (by decide)) (at4 c (by decide) (by decide)) (at_dev c (by decide +kernel)) (by rfl) (by rfl)) fun _ _ => ?_
  refine .cons m (does_wt m c 71 (by rfl) (by rfl)) fun _ _ => ?_
  exact .pure m trivial

/-- Part 59 of the body does these events of the plan. -/
theorem part59 (v41 : BitVec 32) :
    Does m c [.mv 71 85, .snd 85, .ld 27, .lw 26]
      (k0_part59 xM hX oM hO iM hI cM hC cc0_scratch2 cc0_scratch3 cc0_scratch4 cc0_scratch5 cc0_scratch6 cc0_scratch7 cc0_scratch8
        cc0_scratch9 c v41) (fun _ => True) := by
  rw [k0_part59_eq_skeleton]
  unfold k0_part59_skel
  refine .ghost m (ghost_mv m c 71 85) ?_
  refine .cons m (does_snd m c 85 (at6 c (by decide) (by decide)) (at6 c (by decide) (by decide)) (at_dev c (by decide +kernel)) (by rfl) (by rfl)) fun _ _ => ?_
  refine .cons m (does_ld m c 27 (at1_later c (by decide) (by decide) (by decide)) (by rfl) (by rfl)) fun _ _ => ?_
  refine .cons m (does_lw m c 26 (by rfl) (by rfl)) fun _ _ => ?_
  exact .pure m trivial

/-- Part 60 of the body does these events of the plan. -/
theorem part60 (v37 v41 v1777 : BitVec 32) :
    Does m c [.cw 24, .rd 26, .rv 26, .st 26, .cp 26]
      (k0_part60 xM hX oM hO iM hI cM hC cc0_scratch2 cc0_scratch3 cc0_scratch4 cc0_scratch5 cc0_scratch6 cc0_scratch7 cc0_scratch8
        cc0_scratch9 c v37 v41 v1777) (fun _ => True) := by
  rw [k0_part60_eq_skeleton]
  unfold k0_part60_skel
  refine .cons m (does_cw m c 24 (by rfl) (by rfl)) fun _ _ => ?_
  refine .cons m (does_rd m c 26 (by rfl)) fun v hv => ?_
  refine .cons m (does_rv m c 26 (by rfl)) fun _ _ => ?_
  refine .cons m (does_st m c 26 (by rfl) (by subst hv; rfl)) fun _ _ => ?_
  refine .cons m (does_cp m c 26 (at2_later c (by decide) (by decide) (by decide)) (by rfl) (by rfl)) fun _ _ => ?_
  exact .pure m trivial

/-- Part 61 of the body does these events of the plan. -/
theorem part61 (v37 v41 v1816 : BitVec 32) :
    Does m c [.ld 28, .lw 27, .cw 25, .rd 27, .rv 27, .st 27, .cp 27]
      (k0_part61 xM hX oM hO iM hI cM hC cc0_scratch2 cc0_scratch3 cc0_scratch4 cc0_scratch5 cc0_scratch6 cc0_scratch7 cc0_scratch8
        cc0_scratch9 c v37 v41 v1816) (fun _ => True) := by
  rw [k0_part61_eq_skeleton]
  unfold k0_part61_skel
  refine .cons m (does_ld m c 28 (at1_later c (by decide) (by decide) (by decide)) (by rfl) (by rfl)) fun _ _ => ?_
  refine .cons m (does_lw m c 27 (by rfl) (by rfl)) fun _ _ => ?_
  refine .cons m (does_cw m c 25 (by rfl) (by rfl)) fun _ _ => ?_
  refine .cons m (does_rd m c 27 (by rfl)) fun v hv => ?_
  refine .cons m (does_rv m c 27 (by rfl)) fun _ _ => ?_
  refine .cons m (does_st m c 27 (by rfl) (by subst hv; rfl)) fun _ _ => ?_
  refine .cons m (does_cp m c 27 (at2_later c (by decide) (by decide) (by decide)) (by rfl) (by rfl)) fun _ _ => ?_
  exact .pure m trivial

/-- Part 62 of the body does these events of the plan. -/
theorem part62 (v41 v1854 c3_i32_1589 : BitVec 32) :
    Does m c [.ld 29, .lw 28, .cw 26, .rd 28, .rv 28, .st 28]
      (k0_part62 xM hX oM hO iM hI cM hC cc0_scratch2 cc0_scratch3 cc0_scratch4 cc0_scratch5 cc0_scratch6 cc0_scratch7 cc0_scratch8
        cc0_scratch9 c v41 v1854 c3_i32_1589) (fun _ => True) := by
  rw [k0_part62_eq_skeleton]
  unfold k0_part62_skel
  refine .cons m (does_ld m c 29 (at1_later c (by decide) (by decide) (by decide)) (by rfl) (by rfl)) fun _ _ => ?_
  refine .cons m (does_lw m c 28 (by rfl) (by rfl)) fun _ _ => ?_
  refine .cons m (does_cw m c 26 (by rfl) (by rfl)) fun _ _ => ?_
  refine .cons m (does_rd m c 28 (by rfl)) fun v hv => ?_
  refine .cons m (does_rv m c 28 (by rfl)) fun _ _ => ?_
  refine .cons m (does_st m c 28 (by rfl) (by subst hv; rfl)) fun _ _ => ?_
  exact .pure m trivial

/-- Part 63 of the body does these events of the plan. -/
theorem part63 (v2 v5 v8 v11 v14 v37 v39 v41 v1855 c256_i32_1617 : BitVec 32) :
    Does m c [.cp 28, .wt 50]
      (k0_part63 xM hX oM hO iM hI cM hC cc0_scratch2 cc0_scratch3 cc0_scratch4 cc0_scratch5 cc0_scratch6 cc0_scratch7 cc0_scratch8
        cc0_scratch9 c v2 v5 v8 v11 v14 v37 v39 v41 v1855 c256_i32_1617) (fun _ => True) := by
  rw [k0_part63_eq_skeleton]
  unfold k0_part63_skel
  refine .cons m (does_cp m c 28 (at2_later c (by decide) (by decide) (by decide)) (by rfl) (by rfl)) fun _ _ => ?_
  refine .cons m (does_wt m c 50 (by rfl) (by rfl)) fun _ _ => ?_
  exact .pure m trivial

/-- Part 64 of the body does these events of the plan. -/
theorem part64 (v2 v5 v8 v9 v10 v11 v17 v39 v1904 : BitVec 32) :
    Does m c [.sp 5, .snd 61, .snd 83, .wt 72]
      (k0_part64 xM hX oM hO iM hI cM hC cc0_scratch2 cc0_scratch3 cc0_scratch4 cc0_scratch5 cc0_scratch6 cc0_scratch7 cc0_scratch8
        cc0_scratch9 c v2 v5 v8 v9 v10 v11 v17 v39 v1904) (fun _ => True) := by
  rw [k0_part64_eq_skeleton]
  unfold k0_part64_skel
  refine .ghost m (ghost_sp m c 5) ?_
  refine .cons m (does_snd m c 61 (at4 c (by decide) (by decide)) (at4 c (by decide) (by decide)) (at_dev c (by decide +kernel)) (by rfl) (by rfl)) fun _ _ => ?_
  refine .cons m (does_snd m c 83 (at4 c (by decide) (by decide)) (at4 c (by decide) (by decide)) (at_dev c (by decide +kernel)) (by rfl) (by rfl)) fun _ _ => ?_
  refine .cons m (does_wt m c 72 (by rfl) (by rfl)) fun _ _ => ?_
  exact .pure m trivial

/-- Part 65 of the body does these events of the plan. -/
theorem part65 (v2 v5 v17 v39 v41 v1948 : BitVec 32) :
    Does m c [.mv 72 86, .snd 86, .ld 30]
      (k0_part65 xM hX oM hO iM hI cM hC cc0_scratch2 cc0_scratch3 cc0_scratch4 cc0_scratch5 cc0_scratch6 cc0_scratch7 cc0_scratch8
        cc0_scratch9 c v2 v5 v17 v39 v41 v1948) (fun _ => True) := by
  rw [k0_part65_eq_skeleton]
  unfold k0_part65_skel
  refine .ghost m (ghost_mv m c 72 86) ?_
  refine .cons m (does_snd m c 86 (at6 c (by decide) (by decide)) (at6 c (by decide) (by decide)) (at_dev c (by decide +kernel)) (by rfl) (by rfl)) fun _ _ => ?_
  refine .cons m (does_ld m c 30 (at1_later c (by decide) (by decide) (by decide)) (by rfl) (by rfl)) fun _ _ => ?_
  exact .pure m trivial

/-- Part 66 of the body does these events of the plan. -/
theorem part66 (v37 v41 v1967 : BitVec 32) :
    Does m c [.lw 29, .cw 27, .rd 29, .rv 29, .st 29, .cp 29]
      (k0_part66 xM hX oM hO iM hI cM hC cc0_scratch2 cc0_scratch3 cc0_scratch4 cc0_scratch5 cc0_scratch6 cc0_scratch7 cc0_scratch8
        cc0_scratch9 c v37 v41 v1967) (fun _ => True) := by
  rw [k0_part66_eq_skeleton]
  unfold k0_part66_skel
  refine .cons m (does_lw m c 29 (by rfl) (by rfl)) fun _ _ => ?_
  refine .cons m (does_cw m c 27 (by rfl) (by rfl)) fun _ _ => ?_
  refine .cons m (does_rd m c 29 (by rfl)) fun v hv => ?_
  refine .cons m (does_rv m c 29 (by rfl)) fun _ _ => ?_
  refine .cons m (does_st m c 29 (by rfl) (by subst hv; rfl)) fun _ _ => ?_
  refine .cons m (does_cp m c 29 (at2_later c (by decide) (by decide) (by decide)) (by rfl) (by rfl)) fun _ _ => ?_
  exact .pure m trivial

/-- Part 67 of the body does these events of the plan. -/
theorem part67 (v37 v2006 v2008 : BitVec 32) :
    Does m c [.ld 31, .lw 30, .cw 28, .rd 30, .rv 30, .st 30]
      (k0_part67 xM hX oM hO iM hI cM hC cc0_scratch2 cc0_scratch3 cc0_scratch4 cc0_scratch5 cc0_scratch6 cc0_scratch7 cc0_scratch8
        cc0_scratch9 c v37 v2006 v2008) (fun _ => True) := by
  rw [k0_part67_eq_skeleton]
  unfold k0_part67_skel
  refine .cons m (does_ld m c 31 (at1_later c (by decide) (by decide) (by decide)) (by rfl) (by rfl)) fun _ _ => ?_
  refine .cons m (does_lw m c 30 (by rfl) (by rfl)) fun _ _ => ?_
  refine .cons m (does_cw m c 28 (by rfl) (by rfl)) fun _ _ => ?_
  refine .cons m (does_rd m c 30 (by rfl)) fun v hv => ?_
  refine .cons m (does_rv m c 30 (by rfl)) fun _ _ => ?_
  refine .cons m (does_st m c 30 (by rfl) (by subst hv; rfl)) fun _ _ => ?_
  exact .pure m trivial

/-- Part 68 of the body does these events of the plan. -/
theorem part68 (v37 v41 : BitVec 32) :
    Does m c [.cp 30, .lw 31, .cw 29, .rd 31, .rv 31, .st 31]
      (k0_part68 xM hX oM hO iM hI cM hC cc0_scratch2 cc0_scratch3 cc0_scratch4 cc0_scratch5 cc0_scratch6 cc0_scratch7 cc0_scratch8
        cc0_scratch9 c v37 v41) (fun _ => True) := by
  rw [k0_part68_eq_skeleton]
  unfold k0_part68_skel
  refine .cons m (does_cp m c 30 (at2_later c (by decide) (by decide) (by decide)) (by rfl) (by rfl)) fun _ _ => ?_
  refine .cons m (does_lw m c 31 (by rfl) (by rfl)) fun _ _ => ?_
  refine .cons m (does_cw m c 29 (by rfl) (by rfl)) fun _ _ => ?_
  refine .cons m (does_rd m c 31 (by rfl)) fun v hv => ?_
  refine .cons m (does_rv m c 31 (by rfl)) fun _ _ => ?_
  refine .cons m (does_st m c 31 (by rfl) (by subst hv; rfl)) fun _ _ => ?_
  exact .pure m trivial

/-- Part 69 of the body does these events of the plan. -/
theorem part69 (v2 v5 v8 v11 v14 v39 v41 : BitVec 32) :
    Does m c [.cp 31, .wt 51, .sp 6, .snd 62]
      (k0_part69 xM hX oM hO iM hI cM hC cc0_scratch2 cc0_scratch3 cc0_scratch4 cc0_scratch5 cc0_scratch6 cc0_scratch7 cc0_scratch8
        cc0_scratch9 c v2 v5 v8 v11 v14 v39 v41) (fun _ => True) := by
  rw [k0_part69_eq_skeleton]
  unfold k0_part69_skel
  refine .cons m (does_cp m c 31 (at2_later c (by decide) (by decide) (by decide)) (by rfl) (by rfl)) fun _ _ => ?_
  refine .cons m (does_wt m c 51 (by rfl) (by rfl)) fun _ _ => ?_
  refine .ghost m (ghost_sp m c 6) ?_
  refine .cons m (does_snd m c 62 (at4 c (by decide) (by decide)) (at4 c (by decide) (by decide)) (at_dev c (by decide +kernel)) (by rfl) (by rfl)) fun _ _ => ?_
  exact .pure m trivial

/-- Part 70 of the body does these events of the plan. -/
theorem part70 (v2 v5 v8 v9 v10 v11 v17 v39 v2083 : BitVec 32) :
    Does m c [.snd 84, .wt 73]
      (k0_part70 xM hX oM hO iM hI cM hC cc0_scratch2 cc0_scratch3 cc0_scratch4 cc0_scratch5 cc0_scratch6 cc0_scratch7 cc0_scratch8
        cc0_scratch9 c v2 v5 v8 v9 v10 v11 v17 v39 v2083) (fun _ => True) := by
  rw [k0_part70_eq_skeleton]
  unfold k0_part70_skel
  refine .cons m (does_snd m c 84 (at4 c (by decide) (by decide)) (at4 c (by decide) (by decide)) (at_dev c (by decide +kernel)) (by rfl) (by rfl)) fun _ _ => ?_
  refine .cons m (does_wt m c 73 (by rfl) (by rfl)) fun _ _ => ?_
  exact .pure m trivial

/-- Part 71 of the body does these events of the plan. -/
theorem part71 (v2 v5 v8 v11 v17 c16_i32_1822 : BitVec 32) :
    Does m c [.mv 73 87, .snd 87, .wt 52, .wt 53]
      (k0_part71 xM hX oM hO iM hI cM hC cc0_scratch2 cc0_scratch3 cc0_scratch4 cc0_scratch5 cc0_scratch6 cc0_scratch7 cc0_scratch8
        cc0_scratch9 c v2 v5 v8 v11 v17 c16_i32_1822) (fun _ => True) := by
  rw [k0_part71_eq_skeleton]
  unfold k0_part71_skel
  refine .ghost m (ghost_mv m c 73 87) ?_
  refine .cons m (does_snd m c 87 (at6 c (by decide) (by decide)) (at6 c (by decide) (by decide)) (at_dev c (by decide +kernel)) (by rfl) (by rfl)) fun _ _ => ?_
  refine .cons m (does_wt m c 52 (by rfl) (by rfl)) fun _ _ => ?_
  refine .cons m (does_wt m c 53 (by rfl) (by rfl)) fun _ _ => ?_
  exact .pure m trivial

/-- Part 72 of the body does these events of the plan. -/
theorem part72 (v5 v8 v11 v2162 : BitVec 32) :
    Does m c [.wt 54, .wt 55, .wt 67]
      (k0_part72 xM hX oM hO iM hI cM hC cc0_scratch2 cc0_scratch3 cc0_scratch4 cc0_scratch5 cc0_scratch6 cc0_scratch7 cc0_scratch8
        cc0_scratch9 c v5 v8 v11 v2162) (fun _ => True) := by
  rw [k0_part72_eq_skeleton]
  unfold k0_part72_skel
  refine .cons m (does_wt m c 54 (by rfl) (by rfl)) fun _ _ => ?_
  refine .cons m (does_wt m c 55 (by rfl) (by rfl)) fun _ _ => ?_
  refine .cons m (does_wt m c 67 (by rfl) (by rfl)) fun _ _ => ?_
  exact .pure m trivial

/-- Part 73 of the body does these events of the plan. -/
theorem part73 (v5 v8 v11 v2193 c4_i32_1872 : BitVec 32) :
    Does m c [.wt 68, .wt 69, .wt 70]
      (k0_part73 xM hX oM hO iM hI cM hC cc0_scratch2 cc0_scratch3 cc0_scratch4 cc0_scratch5 cc0_scratch6 cc0_scratch7 cc0_scratch8
        cc0_scratch9 c v5 v8 v11 v2193 c4_i32_1872) (fun _ => True) := by
  rw [k0_part73_eq_skeleton]
  unfold k0_part73_skel
  refine .cons m (does_wt m c 68 (by rfl) (by rfl)) fun _ _ => ?_
  refine .cons m (does_wt m c 69 (by rfl) (by rfl)) fun _ _ => ?_
  refine .cons m (does_wt m c 70 (by rfl) (by rfl)) fun _ _ => ?_
  exact .pure m trivial

/-- Part 74 of the body does these events of the plan. -/
theorem part74 (v5 v8 v11 v2225 c1_i32_1897 : BitVec 32) :
    Does m c [.wt 74, .wt 75, .wt 76]
      (k0_part74 xM hX oM hO iM hI cM hC cc0_scratch2 cc0_scratch3 cc0_scratch4 cc0_scratch5 cc0_scratch6 cc0_scratch7 cc0_scratch8
        cc0_scratch9 c v5 v8 v11 v2225 c1_i32_1897) (fun _ => True) := by
  rw [k0_part74_eq_skeleton]
  unfold k0_part74_skel
  refine .cons m (does_wt m c 74 (by rfl) (by rfl)) fun _ _ => ?_
  refine .cons m (does_wt m c 75 (by rfl) (by rfl)) fun _ _ => ?_
  refine .cons m (does_wt m c 76 (by rfl) (by rfl)) fun _ _ => ?_
  exact .pure m trivial

/-- Part 75 of the body does these events of the plan. -/
theorem part75 (v5 v8 v11 : BitVec 32) :
    Does m c [.wt 77, .wt 92, .wt 93]
      (k0_part75 xM hX oM hO iM hI cM hC cc0_scratch2 cc0_scratch3 cc0_scratch4 cc0_scratch5 cc0_scratch6 cc0_scratch7 cc0_scratch8
        cc0_scratch9 c v5 v8 v11) (fun _ => True) := by
  rw [k0_part75_eq_skeleton]
  unfold k0_part75_skel
  refine .cons m (does_wt m c 77 (by rfl) (by rfl)) fun _ _ => ?_
  refine .cons m (does_wt m c 92 (by rfl) (by rfl)) fun _ _ => ?_
  refine .cons m (does_wt m c 93 (by rfl) (by rfl)) fun _ _ => ?_
  exact .pure m trivial

/-- Part 76 of the body does these events of the plan. -/
theorem part76 (v5 v8 v11 : BitVec 32) :
    Does m c [.wt 94, .wt 95, .wt 96, .wt 97]
      (k0_part76 xM hX oM hO iM hI cM hC cc0_scratch2 cc0_scratch3 cc0_scratch4 cc0_scratch5 cc0_scratch6 cc0_scratch7 cc0_scratch8
        cc0_scratch9 c v5 v8 v11) (fun _ => True) := by
  rw [k0_part76_eq_skeleton]
  unfold k0_part76_skel
  refine .cons m (does_wt m c 94 (by rfl) (by rfl)) fun _ _ => ?_
  refine .cons m (does_wt m c 95 (by rfl) (by rfl)) fun _ _ => ?_
  refine .cons m (does_wt m c 96 (by rfl) (by rfl)) fun _ _ => ?_
  refine .cons m (does_wt m c 97 (by rfl) (by rfl)) fun _ _ => ?_
  exact .pure m trivial

/-- Part 77 of the body does these events of the plan. -/
theorem part77 :
    Does m c [.cw 30, .cw 31, .wt 34, .wt 35, .wt 36]
      (k0_part77 xM hX oM hO iM hI cM hC cc0_scratch2 cc0_scratch3 cc0_scratch4 cc0_scratch5 cc0_scratch6 cc0_scratch7 cc0_scratch8
        cc0_scratch9 c) (fun _ => True) := by
  rw [k0_part77_eq_skeleton]
  unfold k0_part77_skel
  refine .cons m (does_cw m c 30 (by rfl) (by rfl)) fun _ _ => ?_
  refine .cons m (does_cw m c 31 (by rfl) (by rfl)) fun _ _ => ?_
  refine .cons m (does_wt m c 34 (by rfl) (by rfl)) fun _ _ => ?_
  refine .cons m (does_wt m c 35 (by rfl) (by rfl)) fun _ _ => ?_
  refine .cons m (does_wt m c 36 (by rfl) (by rfl)) fun _ _ => ?_
  exact .pure m trivial

/-- Part 78 of the body does these events of the plan. -/
theorem part78 :
    Does m c [.wt 37, .wt 38, .wt 39, .wt 40, .wt 41, .wt 42]
      (k0_part78 xM hX oM hO iM hI cM hC cc0_scratch2 cc0_scratch3 cc0_scratch4 cc0_scratch5 cc0_scratch6 cc0_scratch7 cc0_scratch8
        cc0_scratch9 c) (fun _ => True) := by
  rw [k0_part78_eq_skeleton]
  unfold k0_part78_skel
  refine .cons m (does_wt m c 37 (by rfl) (by rfl)) fun _ _ => ?_
  refine .cons m (does_wt m c 38 (by rfl) (by rfl)) fun _ _ => ?_
  refine .cons m (does_wt m c 39 (by rfl) (by rfl)) fun _ _ => ?_
  refine .cons m (does_wt m c 40 (by rfl) (by rfl)) fun _ _ => ?_
  refine .cons m (does_wt m c 41 (by rfl) (by rfl)) fun _ _ => ?_
  refine .cons m (does_wt m c 42 (by rfl) (by rfl)) fun _ _ => ?_
  exact .pure m trivial

/-- Part 79 of the body does these events of the plan. -/
theorem part79 :
    Does m c [.wt 43, .wt 44, .wt 56, .wt 57, .wt 58, .wt 59]
      (k0_part79 xM hX oM hO iM hI cM hC cc0_scratch2 cc0_scratch3 cc0_scratch4 cc0_scratch5 cc0_scratch6 cc0_scratch7 cc0_scratch8
        cc0_scratch9 c) (fun _ => True) := by
  rw [k0_part79_eq_skeleton]
  unfold k0_part79_skel
  refine .cons m (does_wt m c 43 (by rfl) (by rfl)) fun _ _ => ?_
  refine .cons m (does_wt m c 44 (by rfl) (by rfl)) fun _ _ => ?_
  refine .cons m (does_wt m c 56 (by rfl) (by rfl)) fun _ _ => ?_
  refine .cons m (does_wt m c 57 (by rfl) (by rfl)) fun _ _ => ?_
  refine .cons m (does_wt m c 58 (by rfl) (by rfl)) fun _ _ => ?_
  refine .cons m (does_wt m c 59 (by rfl) (by rfl)) fun _ _ => ?_
  exact .pure m trivial

/-- Part 80 of the body does these events of the plan. -/
theorem part80 :
    Does m c [.wt 60, .wt 61, .wt 62, .wt 63, .wt 64, .wt 65]
      (k0_part80 xM hX oM hO iM hI cM hC cc0_scratch2 cc0_scratch3 cc0_scratch4 cc0_scratch5 cc0_scratch6 cc0_scratch7 cc0_scratch8
        cc0_scratch9 c) (fun _ => True) := by
  rw [k0_part80_eq_skeleton]
  unfold k0_part80_skel
  refine .cons m (does_wt m c 60 (by rfl) (by rfl)) fun _ _ => ?_
  refine .cons m (does_wt m c 61 (by rfl) (by rfl)) fun _ _ => ?_
  refine .cons m (does_wt m c 62 (by rfl) (by rfl)) fun _ _ => ?_
  refine .cons m (does_wt m c 63 (by rfl) (by rfl)) fun _ _ => ?_
  refine .cons m (does_wt m c 64 (by rfl) (by rfl)) fun _ _ => ?_
  refine .cons m (does_wt m c 65 (by rfl) (by rfl)) fun _ _ => ?_
  exact .pure m trivial

/-- Part 81 of the body does these events of the plan. -/
theorem part81 :
    Does m c [.wt 66, .wt 78, .wt 79, .wt 80, .wt 81, .wt 82]
      (k0_part81 xM hX oM hO iM hI cM hC cc0_scratch2 cc0_scratch3 cc0_scratch4 cc0_scratch5 cc0_scratch6 cc0_scratch7 cc0_scratch8
        cc0_scratch9 c) (fun _ => True) := by
  rw [k0_part81_eq_skeleton]
  unfold k0_part81_skel
  refine .cons m (does_wt m c 66 (by rfl) (by rfl)) fun _ _ => ?_
  refine .cons m (does_wt m c 78 (by rfl) (by rfl)) fun _ _ => ?_
  refine .cons m (does_wt m c 79 (by rfl) (by rfl)) fun _ _ => ?_
  refine .cons m (does_wt m c 80 (by rfl) (by rfl)) fun _ _ => ?_
  refine .cons m (does_wt m c 81 (by rfl) (by rfl)) fun _ _ => ?_
  refine .cons m (does_wt m c 82 (by rfl) (by rfl)) fun _ _ => ?_
  exact .pure m trivial

end Cert.KernelIdealRun
-- ==== Proof.KernelIdeal.Body.lean ====
/-
The whole body: the signals to the three neighbours, the wait for theirs, then the plan's events in order.
-/
module

public import proofs.«01_k».proof.Proof.KernelIdeal.Parts

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- A program leads from one resource to another, its result of a given kind. -/
def Goes (P P' : sProp 𝕄) {α : Type} (p : Prog (TpuEff nD τ sig (Elt F) Λ₀ .tc) α) (R : α → Prop) : Prop :=
  ∀ Q : α → sProp 𝕄, (∀ a, R a → P' ⊢ Q a) → P ⊢ wp frame (wpE (defs₀ (F := F)) 𝒱₀ (c : Thread nD τ) none) Set.univ p Q

theorem Goes.bind {P P' P'' : sProp 𝕄} {α β : Type} {p : Prog (TpuEff nD τ sig (Elt F) Λ₀ .tc) α}
    {f : α → Prog (TpuEff nD τ sig (Elt F) Λ₀ .tc) β} {R : α → Prop} {R' : β → Prop}
    (h : Goes c P P' p R) (h' : ∀ a, R a → Goes c P' P'' (f a) R') : Goes c P P'' (p >>= f) R' := by
  intro Q hQ
  rw [wp_bind]
  exact h _ fun a ha => h' a ha Q hQ

theorem Goes.pure {P : sProp 𝕄} {α : Type} {a : α} {R : α → Prop} (h : R a) : Goes c P P (Pure.pure a) R := by
  intro Q hQ
  rw [wp_pure]
  exact (hQ a h).trans (by iintro H; imodintro; iexact H)

/-- A program that does events, beside something that it does not touch. -/
theorem Does.goes {Z : sProp 𝕄} {o l l' : List Plan.Op} {α : Type} {p : Prog (TpuEff nD τ sig (Elt F) Λ₀ .tc) α} {R : α → Prop}
    (h : Does m c o p R) (hl : l' = o ++ l) : Goes c iprop(Z ∗ At m c l') iprop(Z ∗ At m c l) p R := by
  subst hl
  intro Q hQ
  have h₁ := h l (fun a => iprop(Z -∗ Q a)) fun a ha => by
    iintro H Hz
    iapply (hQ a ha)
    isplitl [Hz] <;> iassumption
  iintro ⟨Hz, H⟩
  ihave H := h₁ $$ H
  iapply (wp_wand _ _ _) $$ H
  iintro %a Hw
  iapply Hw $$ Hz

/-! ## The barrier -/

/-- What the signals still due over the links `D` owe. -/
def due (D : Finset (Fin 3)) : CellTallies nD τ sig Unit := ∑ d ∈ D, tallyAt (cellB (Plan.nb d c)) () 1

/-- What a device holds for the signal over link `d`: the duty's token, and the chunks that the neighbour sends. -/
def sigP (d : Fin 3) : sProp 𝕄 := iprop(dutyTok ER (cellB (Plan.nb d c)) 0 d ∗ bigSep (Plan.recvs d) (raw m c))

/-- The tokens of a send and of its landing. -/
def tokP (n : ℕ) : sProp 𝕄 := iprop(dutyTok ER (cellD c n) 0 0 ∗ dutyTok ER (cellD (Plan.peer n c) (Plan.recvOf n)) 0 0)

/-- What a device holds at its body's beginning beside the signals: its barrier's position and credit, the sends' tokens, and
    the plan's things but the sends'. -/
def Kept : sProp 𝕄 :=
  iprop(atPos ER (cellB c) 0 ∅ 0 ∗ cred (tallyAt (cellB c) () 3) ∗ bigSep Plan.sends (tokP c)
    ∗ bigSep (Finset.univ.erase Kind.snd) fun k => bigSep (nums Plan.start k) (held m c k))

/-- A device before the signals over the links `D`. -/
def Sig (D : Finset (Fin 3)) : sProp 𝕄 :=
  iprop(recs m ∗ levAts L lv ∗ (∃ W, owes (c : Thread nD τ) (owing c Plan.sends + due c D) W) ∗ bigSep D (sigP m c) ∗ Kept m c)

theorem due_erase {D : Finset (Fin 3)} {d : Fin 3} (hd : d ∈ D) :
    owing c Plan.sends + due c D = owing c Plan.sends + due c (D.erase d) + tallyAt (cellB (Plan.nb d c)) () 1 := by
  unfold due
  rw [add_assoc, Finset.sum_erase_add _ _ hd]

theorem amount_bar (d : Fin 3) : (Rd (F := F) m).amount (cellB c) 0 d = 1 := rfl

/-- The signal over link `d`. -/
theorem goes_signal (d : Fin 3) {D : Finset (Fin 3)} (hd : d ∈ D) {p : Dev nD} (hp : p = Plan.nb d c) {s : Sem sig} (hs : s = bar) :
    Goes c (Sig m c D) (Sig m c (D.erase d)) (semSignalWord p s 1#32) (fun _ => True) := by
  subst hp; subst hs
  intro Q hQ
  rw [show (semSignalWord (Plan.nb d c) bar 1#32 : Prog (TpuEff nD τ sig (Elt F) Λ₀ .tc) PUnit)
    = .op (.semSignal (Plan.nb d c : Thread nD τ) bar ((1 : ℕ) : ℤ)) .ret from rfl]
  unfold Sig
  iintro ⟨#Hr, #Hlev, ⟨%W, HO⟩, HS, HK⟩
  have e : (bigSep D (sigP m c) : sProp 𝕄) = iprop(sigP m c d ∗ bigSep (D.erase d) (sigP m c)) := bigSep_erase hd
  ihave HS := (Entails.of_eq e) $$ HS
  icases HS with ⟨Hd, HS⟩
  unfold sigP
  icases Hd with ⟨Ht, Hp⟩
  ihave H := (recs_bar m (Plan.nb d c)) $$ Hr
  icases H with ⟨%κ, #Hi, #Hre⟩
  iapply (Rounds.wp_signal 𝒱₀ ER (Rd m) (c : Thread nD τ) none (dst := (Plan.nb d c : Thread nD τ)) (κ := κ)
      (d := d) (by rw [duties_bar]; exact Finset.mem_univ _) (amount_bar m _ d) () (owing c Plan.sends + due c (D.erase d))
      (due_erase c hd)) $$ [HO Ht Hp]
  · isplitr; · iexact Hi
    isplitl [HO]; · iexact HO
    isplitl [Ht]; · iexact Ht
    isplitl [Hp]
    · have e' : (Rd (F := F) m).payload (cellB (Plan.nb d c)) 0 d = bigSep (Plan.recvs d) (raw m c) := by
        show barPay m d (Plan.nb d c) = _
        unfold barPay
        rw [Plan.nb_nb]
      rw [e']
      iexact Hp
    · iexact Hre
  iintro HO
  rw [wp_ret]
  imodintro
  iapply (hQ ⟨⟩ trivial)
  unfold Sig
  isplitr; · iexact Hr
  isplitr; · iexact Hlev
  isplitl [HO]; · iexists W; iexact HO
  isplitl [HS]; · iexact HS
  iexact HK

/-- The sends over link `d`. -/
def sendsOf (d : Fin 3) : Finset ℕ := Plan.sends.filter (Plan.link · = d)

theorem links_all : Plan.sends.image Plan.link = Finset.univ := by decide +kernel
theorem recvs_links : ∀ d : Fin 3, Plan.recvs d = (sendsOf d).image Plan.recvOf := by decide +kernel
theorem recvOf_inj : ∀ d : Fin 3, ∀ a ∈ sendsOf d, ∀ b ∈ sendsOf d, Plan.recvOf a = Plan.recvOf b → a = b := by decide +kernel

/-- Something for every landing over every link, send by send. -/
theorem by_sends (Φ : Fin 3 → ℕ → sProp 𝕄) :
    (bigSep Finset.univ fun d => bigSep (Plan.recvs d) (Φ d)) = bigSep Plan.sends fun n => Φ (Plan.link n) (Plan.recvOf n) := by
  refine Eq.trans ?_ (bigSep_fiberwise Plan.sends Plan.link fun n => Φ (Plan.link n) (Plan.recvOf n)).symm
  rw [links_all]
  refine bigSep_congr fun d _ => ?_
  rw [recvs_links, bigSep_image_of_injOn (fun a ha b hb => recvOf_inj d a ha b hb)]
  exact bigSep_congr fun n hn => by rw [(Finset.mem_filter.mp hn).2]

/-- What the neighbours hand over with their signals, send by send. -/
theorem rest_bar :
    (bigSep ((Rd (F := F) m).duties (cellB c) 0 \ ∅) fun d => (Rd (F := F) m).payload (cellB c) 0 d)
      = bigSep Plan.sends fun n => raw m (Plan.peer n c) (Plan.recvOf n) := by
  rw [Finset.sdiff_empty, duties_bar]
  exact by_sends fun d => raw m (Plan.nb d c)

/-- Before the barrier's wait nothing stands below it. -/
theorem bar_below : ∀ n ∈ Plan.sends, Plan.recvOf n < 98 ∧ 1 < Plan.lvl (Plan.recvOf n) := by decide +kernel

/-- The wait for the three signals: the barrier's counter is back at zero, and the plan's first stage stands. -/
theorem goes_wait {s : Sem sig} (hs : s = bar) {l : List Plan.Op} (hl : l = Plan.body ++ Plan.closing) :
    Goes c (Sig m c ∅) iprop(semVal (cellB c) 0 ∗ At m c l) (semWaitWord s 3#32) (fun _ => True) := by
  subst hs; subst hl
  intro Q hQ
  unfold Sig Kept
  iintro ⟨#Hr, #Hlev, ⟨%W, HO⟩, -, Hat, Hc, HT, HA⟩
  ihave H := (recs_bar m c) $$ Hr
  icases H with ⟨%κ, #Hi, -⟩
  have e0 : owing c Plan.sends + due c ∅ = owing c Plan.sends := by unfold due; rw [Finset.sum_empty, add_zero]
  unfold semWaitWord
  iapply (Rounds.wp_wait_rest_token 𝒱₀ ER (Rd m) (c : Thread nD τ) none (κ := κ) (k := .ret)
      (wpE_semWait_eq 𝒱₀ (c : Thread nD τ) none Set.univ) (Set.mem_univ _) () (O := owing c Plan.sends) (W := W) (R := 0) (m := 0) (T := ∅)
      (by rw [expect_bar]; decide)) $$ [Hc HO Hat]
  · isplitr; · iexact Hi
    isplitl [Hc]; · iexact Hc
    isplitl [HO]
    · ihave HO := (Entails.of_eq (congrArg (fun O => (owes (c : Thread nD τ) O W : sProp 𝕄)) e0)) $$ HO
      iexact HO
    isplitr; · iapply (mayWait_above c (.reg bar) Plan.sends bar_below) $$ Hlev
    iexact Hat
  iintro ⟨HO, Hat, -, Hp⟩
  imod (Rounds.cell_close ER (Rd m) (Set.mem_univ κ) (fun h => h) (R := 0 + 1) (duties_later m (cellB c))) $$ [Hat] with Hz
  · isplitr; · iexact Hi
    iexact Hat
  ihave Hp := (Entails.of_eq (rest_bar m c)) $$ Hp
  have e : iprop(bigSep Plan.sends (tokP (F := F) c) ∗ bigSep Plan.sends fun n => raw m (Plan.peer n c) (Plan.recvOf n))
      ⊢ (bigSep Plan.sends (held m c .snd) : sProp 𝕄) := by
    have h : ∀ n, iprop(tokP (F := F) c n ∗ raw m (Plan.peer n c) (Plan.recvOf n)) ⊢ (held m c .snd n : sProp 𝕄) := fun n => by
      unfold tokP
      iintro ⟨⟨H1, H2⟩, H3⟩
      isplitl [H1]; · iexact H1
      isplitl [H2]; · iexact H2
      iexact H3
    exact (Entails.of_eq (bigSep_sep' _ _ _).symm).trans (bigSep_mono fun n _ => h n)
  ihave HS := e $$ [HT Hp]
  · isplitl [HT]; · iexact HT
    iexact Hp
  rw [wp_ret]
  imodintro
  iapply (hQ ⟨⟩ trivial)
  isplitl [Hz]; · iexact Hz
  iapply (At_intro m c (s := Plan.start) (f := nums Plan.start) (S := Plan.sends) (W := insert (.reg bar, ()) W)
    ⟨Plan.body_ok, Plan.body_run⟩ rfl rfl)
  isplitr; · iexact Hr
  isplitr; · iexact Hlev
  isplitl [HO]; · iexact HO
  iapply (Entails.of_eq (All_split m c (nums Plan.start) .snd).symm)
  isplitl [HS]; · iexact HS
  iexact HA

/-! ## The parts in order -/

/-- The first part: the signals over the x and the y link. -/
theorem goes_part1 :
    Goes c (Sig m c Finset.univ) (Sig m c {2})
      (k0_part1 (F := F) xM hX oM hO iM hI cM hC cc0_scratch2 cc0_scratch3 cc0_scratch4 cc0_scratch5 cc0_scratch6 cc0_scratch7 cc0_scratch8
        cc0_scratch9) (fun a => a.1 = c ∧ a.2.2.2.2.2.2.2.2.2.1.sem = bar) := by
  rw [k0_part1_eq_skeleton]
  unfold k0_part1_skel
  refine Goes.bind c (P' := Sig m c Finset.univ) (R := fun a => a = c) (fun Q hQ => ?_) fun d hd => ?_
  · show _ ⊢ wp _ _ _ (.op TpuEff.deviceId .ret) Q
    rw [wp_deviceId, wp_ret]
    exact (hQ c rfl).trans (by iintro H; imodintro; iexact H)
  subst hd
  refine Goes.bind _ (goes_signal m _ 0 (Finset.mem_univ _) (at_dev (n := 34) _ (by decide +kernel)) rfl) fun _ _ => ?_
  refine Goes.bind _ (goes_signal m _ 1 (by decide) (at_dev (n := 56) _ (by decide +kernel)) rfl) fun _ _ => ?_
  exact Goes.pure _ ⟨rfl, rfl⟩

/-- The second part: the signal over the z link, the wait, and the first load. -/
theorem goes_part2 (v2 v5 v9 v10 v17 : BitVec 32) {v18 : Sems sig S_} (hv : v18.sem = bar) (v31 : BitVec 32) :
    Goes c (Sig m c {2}) iprop(semVal (cellB c) 0 ∗ At m c (Plan.body.drop 1 ++ Plan.closing))
      (k0_part2 xM hX oM hO iM hI cM hC cc0_scratch2 cc0_scratch3 cc0_scratch4 cc0_scratch5 cc0_scratch6 cc0_scratch7 cc0_scratch8
        cc0_scratch9 c v2 v5 v9 v10 v17 v18 v31) (fun _ => True) := by
  rw [k0_part2_eq_skeleton]
  unfold k0_part2_skel
  refine Goes.bind _ (goes_signal m c 2 (by decide) (at_dev (n := 78) _ (by decide +kernel)) hv) fun _ _ => ?_
  refine Goes.bind _ (goes_wait m c hv rfl) fun _ _ => ?_
  refine Goes.bind _ ((does_ld m c 0 (at1_first c (by decide)) (by rfl) (by rfl)).goes m c rfl) fun _ _ => ?_
  exact Goes.pure _ trivial

set_option maxRecDepth 65536

/-- The body, its events done, the closing renamings left. -/
theorem goes_body :
    Goes c (Sig m c Finset.univ) iprop(semVal (cellB c) 0 ∗ At m c Plan.closing)
      (cc0_body (F := F) xM hX oM hO iM hI cM hC cc0_scratch2 cc0_scratch3 cc0_scratch4 cc0_scratch5 cc0_scratch6 cc0_scratch7 cc0_scratch8
        cc0_scratch9) (fun _ => True) := by
  rw [cc0_body_eq_skeleton]
  unfold cc0_body_skel
  refine Goes.bind c (P' := iprop(semVal (cellB c) 0 ∗ At m c (Plan.body.drop 245 ++ Plan.closing))) (R := fun a => a.1 = c) ?_ ?_
  · rw [k0_part82_eq_skeleton]
    unfold k0_part82_skel
    refine Goes.bind c (goes_part1 m c) ?_
    rintro ⟨d0, v2, v5, v8, v9, v10, v11, v14, v17, v18, v31⟩ ⟨hd, hb⟩
    replace hd : d0 = c := hd
    subst hd
    refine Goes.bind _ (goes_part2 m _ v2 v5 v9 v10 v17 hb v31) ?_
    rintro ⟨v37, v39, v41, v57, v60⟩ -
    refine Does.goes m _ (o := (Plan.body.drop 1).take 244) (Does.conv m (
    Does.bind m (part3 m _ v37 v57 v60) fun _ _ =>
    Does.bind m (part4 m _ v5 v8 v11 v37 v41 v57) fun v112 _ =>
    Does.bind m (part5 m _ v37 v112) fun v149 _ =>
    Does.bind m (part6 m _ v5 v8 v11 v37 v41 v149) fun v167 _ =>
    Does.bind m (part7 m _ v5 v11 v37 v167) fun ⟨v209, c1_i32_174⟩ _ =>
    Does.bind m (part8 m _ v8 v41 v209 c1_i32_174) fun ⟨v222, v240⟩ hv =>
    Does.bind m (part9 m _ v5 v8 v11 v37 v222 hv) fun _ _ =>
    Does.bind m (part10 m _ v37 v41) fun v277 _ =>
    Does.bind m (part11 m _ v5 v8 v11 v37 v41 v277) fun ⟨v332, c0_i32_277⟩ _ =>
    Does.bind m (part12 m _ v37 v41 v332 c0_i32_277) fun _ _ =>
    Does.bind m (part13 m _ v5 v8 v11 v37 v41 v332) fun v387 _ =>
    Does.bind m (part14 m _ v11 v37 v387) fun ⟨v420, c0_i32_357⟩ _ =>
    Does.bind m (part15 m _ v5 v8 v37 v420 c0_i32_357) fun _ _ =>
    Does.bind m (part16 m _ v5 v8 v11 v37) fun _ _ =>
    Does.bind m (part17 m _ v5 v8 v11 v37) fun _ _ =>
    Does.bind m (part18 m _ v37) fun _ _ =>
    Does.bind m (part19 m _ v5 v8 v11 v37 v41) fun _ _ =>
    Does.bind m (part20 m _ v5 v11 v37) fun ⟨v593, c1_i32_515⟩ _ =>
    Does.bind m (part21 m _ v8 v39 v41 v593 c1_i32_515) fun v627 _ =>
    Does.bind m (part22 m _ v9 v10 v39 v41 v627) fun ⟨v659, c0_i32_568⟩ _ =>
    Does.bind m (part23 m _ v9 v10 v39 v659 c0_i32_568) fun _ _ =>
    Does.bind m (part24 m _ v9 v10 v39) fun _ _ =>
    Does.bind m (part25 m _ v9 v10 v39) fun _ _ =>
    Does.bind m (part26 m _ v9 v10 v39) fun ⟨v795, v796⟩ _ =>
    Does.bind m (part27 m _ v9 v10 v39 v795 v796) fun ⟨v829, c2_i32_698⟩ _ =>
    Does.bind m (part28 m _ v39 v41 v829 c2_i32_698) fun ⟨v837, v859⟩ hv =>
    Does.bind m (part29 m _ v37 v41 v837 hv) fun v871 _ =>
    Does.bind m (part30 m _ v37 v41 v871) fun v905 _ =>
    Does.bind m (part31 m _ v5 v8 v11 v37 v905) fun _ _ =>
    Does.bind m (part32 m _ v2 v5 v8 v14 v17 v39 v41) fun _ _ =>
    Does.bind m (part33 m _ v2 v5 v8 v9 v10 v11 v14 v39) fun c1_i32_854 _ =>
    Does.bind m (part34 m _ v41 c1_i32_854) fun ⟨v1017, v1041⟩ hv =>
    Does.bind m (part35 m _ v37 v41 v1017 hv) fun v1056 _ =>
    Does.bind m (part36 m _ v37 v41 v1056) fun ⟨v1095, v1098, c4_i32_936⟩ _ =>
    Does.bind m (part37 m _ v37 v1095 v1098 c4_i32_936) fun _ _ =>
    Does.bind m (part38 m _ v2 v5 v8 v11 v14 v39 v41) fun v1159 _ =>
    Does.bind m (part39 m _ v2 v5 v8 v9 v10 v11 v17 v39 v1159) fun ⟨v1191, c0_i32_1014⟩ _ =>
    Does.bind m (part40 m _ v8 v14 v41 v1191 c0_i32_1014) fun v1207 _ =>
    Does.bind m (part41 m _ v37 v41 v1207) fun v1246 _ =>
    Does.bind m (part42 m _ v37 v1246) fun _ _ =>
    Does.bind m (part43 m _ v41) fun ⟨v1285, v1308⟩ hv =>
    Does.bind m (part44 m _ v2 v5 v8 v11 v37 v39 v41 v1285 hv) fun ⟨v1334, v1338⟩ _ =>
    Does.bind m (part45 m _ v2 v5 v8 v9 v11 v14 v17 v39 v1334 v1338) fun v1373 _ =>
    Does.bind m (part46 m _ v2 v8 v10 v14 v39 v41 v1373) fun v1397 _ =>
    Does.bind m (part47 m _ v37 v41 v1397) fun ⟨v1433, c7_i32_1222⟩ _ =>
    Does.bind m (part48 m _ v41 v1433 c7_i32_1222) fun ⟨v1436, v1460, v1461⟩ hv =>
    Does.bind m (part49 m _ v37 v41 v1436 hv) fun v1475 _ =>
    Does.bind m (part50 m _ v5 v8 v11 v37 v41 v1475) fun v1520 _ =>
    Does.bind m (part51 m _ v2 v5 v8 v11 v14 v17 v39 v1520) fun v1553 _ =>
    Does.bind m (part52 m _ v2 v5 v8 v9 v10 v14 v39 v41 v1553) fun v1587 _ =>
    Does.bind m (part53 m _ v41 v1587) fun v1615 _ =>
    Does.bind m (part54 m _ v37 v41 v1615) fun v1626 _ =>
    Does.bind m (part55 m _ v37 v41 v1626) fun v1665 _ =>
    Does.bind m (part56 m _ v11 v37 v1665) fun v1700 _ =>
    Does.bind m (part57 m _ v2 v5 v8 v14 v39 v41 v1700) fun ⟨v1732, v1733⟩ _ =>
    Does.bind m (part58 m _ v2 v5 v8 v9 v10 v11 v17 v39 v1732 v1733) fun _ _ =>
    Does.bind m (part59 m _ v41) fun v1777 _ =>
    Does.bind m (part60 m _ v37 v41 v1777) fun v1816 _ =>
    Does.pure m rfl
      ) ?_ fun _ h => h) (by rfl)
    decide +kernel
  rintro ⟨d0, v2, v5, v8, v9, v10, v11, v14, v17, v37, v39, v41, v1816⟩ hd
  replace hd : d0 = c := hd
  subst hd
  refine Goes.bind _ (P' := iprop(semVal (cellB d0) 0 ∗ At m d0 (Plan.body.drop 344 ++ Plan.closing))) (R := fun _ => True) ?_ fun _ _ => ?_
  · rw [k0_part83_eq_skeleton]
    unfold k0_part83_skel
    refine Does.goes m _ (o := (Plan.body.drop 245).take 99) (Does.conv m (
    Does.bind m (part61 m _ v37 v41 v1816) fun ⟨v1854, c3_i32_1589⟩ _ =>
    Does.bind m (part62 m _ v41 v1854 c3_i32_1589) fun ⟨v1855, c256_i32_1617⟩ _ =>
    Does.bind m (part63 m _ v2 v5 v8 v11 v14 v37 v39 v41 v1855 c256_i32_1617) fun v1904 _ =>
    Does.bind m (part64 m _ v2 v5 v8 v9 v10 v11 v17 v39 v1904) fun v1948 _ =>
    Does.bind m (part65 m _ v2 v5 v17 v39 v41 v1948) fun v1967 _ =>
    Does.bind m (part66 m _ v37 v41 v1967) fun ⟨v2006, v2008⟩ _ =>
    Does.bind m (part67 m _ v37 v2006 v2008) fun _ _ =>
    Does.bind m (part68 m _ v37 v41) fun _ _ =>
    Does.bind m (part69 m _ v2 v5 v8 v11 v14 v39 v41) fun v2083 _ =>
    Does.bind m (part70 m _ v2 v5 v8 v9 v10 v11 v17 v39 v2083) fun c16_i32_1822 _ =>
    Does.bind m (part71 m _ v2 v5 v8 v11 v17 c16_i32_1822) fun v2162 _ =>
    Does.bind m (part72 m _ v5 v8 v11 v2162) fun ⟨v2193, c4_i32_1872⟩ _ =>
    Does.bind m (part73 m _ v5 v8 v11 v2193 c4_i32_1872) fun ⟨v2225, c1_i32_1897⟩ _ =>
    Does.bind m (part74 m _ v5 v8 v11 v2225 c1_i32_1897) fun _ _ =>
    Does.bind m (part75 m _ v5 v8 v11) fun _ _ =>
    Does.bind m (part76 m _ v5 v8 v11) fun _ _ =>
    Does.bind m (part77 m _) fun _ _ =>
    Does.bind m (part78 m _) fun _ _ =>
    Does.bind m (part79 m _) fun _ _ =>
    Does.bind m (part80 m _) fun _ _ =>
    Does.bind m (part81 m _) fun _ _ =>
    Does.cons m (does_wt m _ 83 (by rfl) (by rfl)) fun _ _ =>
    Does.cons m (does_wt m _ 84 (by rfl) (by rfl)) fun _ _ =>
    Does.cons m (does_wt m _ 85 (by rfl) (by rfl)) fun _ _ =>
    Does.cons m (does_wt m _ 86 (by rfl) (by rfl)) fun _ _ =>
    Does.pure m trivial
      ) ?_ fun _ h => h) (by rfl)
    decide +kernel
  refine Goes.bind _ ((does_wt m _ 87 (by rfl) (by rfl)).goes m _ (l := Plan.closing) (by rfl)) fun _ _ => ?_
  exact Goes.pure _ trivial

end Cert.KernelIdealRun
-- ==== Proof.KernelIdeal.Deal.lean ====
/-
What a device is dealt at launch and what it gives back: the buffers in chunks and whole, the semaphores as cells, the duty
tokens handed to the devices that pay them, and the launch's credit.
-/
module

public import proofs.«01_k».proof.Proof.KernelIdeal.Body

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The closing events -/

/-- The events that only regroup what is held. -/
def quiet : Plan.Op → Bool
  | .mv _ _ => true | .sp _ => true | .mg _ => true | _ => false

theorem closing_quiet : Plan.closing.all quiet = true := by decide +kernel

/-- Events that only regroup need no program. -/
theorem quiet_done (c : Dev nD) : ∀ l : List Plan.Op, l.all quiet = true → At (F := F) m c l ⊢ |={Set.univ}=> At m c []
  | [], _ => fupd_intro
  | o :: l, h => by
    obtain ⟨h₁, h₂⟩ := (Bool.and_eq_true _ _).mp (List.all_cons ▸ h)
    have ho : At (F := F) m c (o :: l) ⊢ |={Set.univ}=> At m c l := by
      cases o with
      | mv n n' => exact ghost_mv m c n n' l
      | sp j => exact ghost_sp m c j l
      | mg j => exact ghost_mg m c j l
      | _ => exact absurd h₁ Bool.false_ne_true
    exact (ho.trans (BI.fupd_mono (quiet_done c l h₂))).trans fupd_trans

/-- With no event left the device holds what the plan ends with. -/
theorem at_end (c : Dev nD) : At (F := F) m c [] ⊢ St m c Plan.stop := by
  unfold At
  iintro ⟨%s, %h, H⟩
  obtain ⟨-, h⟩ := h
  have e : s = Plan.stop := h
  subst e
  iexact H

/-- After the body's last event. -/
theorem closing_done (c : Dev nD) : At (F := F) m c Plan.closing ⊢ |={Set.univ}=> St m c Plan.stop :=
  (quiet_done m c _ closing_quiet).trans (BI.fupd_mono (at_end m c))

/-! ## Indexed conjunctions -/

theorem nothing {I : Type} [DecidableEq I] (S : Finset I) : (bigSep S fun _ => (BI.emp : sProp 𝕄)) = BI.emp := by
  induction S using Finset.induction_on with
  | empty => rw [bigSep_empty]
  | insert n S hn ih => rw [bigSep_insert hn, ih]; exact equiv_iff.mp emp_sep

/-- The order of two indices does not matter. -/
theorem swap {I J : Type} [Fintype I] [DecidableEq I] [DecidableEq J] (S : Finset J) (Φ : I → J → sProp 𝕄) :
    (bigSep Finset.univ fun c => bigSep S (Φ c)) = bigSep S fun n => bigSep Finset.univ fun c => Φ c n := by
  induction S using Finset.induction_on with
  | empty =>
    rw [bigSep_empty, bigSep_congr (s := (Finset.univ : Finset I)) (Φ := fun c => bigSep ∅ (Φ c)) (Ψ := fun _ => (BI.emp : sProp 𝕄)) fun c _ => bigSep_empty]
    exact nothing _
  | insert n S hn ih =>
    have e (c : I) : bigSep (insert n S) (Φ c) = iprop(Φ c n ∗ bigSep S (Φ c)) := bigSep_insert hn
    rw [bigSep_insert hn, ← ih, bigSep_congr fun c _ => e c]
    exact bigSep_sep' _ _ _

/-- What every device has of its neighbour's, each has of its own. -/
theorem around (d : Fin 3) (Φ : Dev nD → sProp 𝕄) :
    bigSep Finset.univ Φ = bigSep Finset.univ fun c : Dev nD => Φ (Plan.nb d c) :=
  bigSep_univ_equiv (⟨Plan.nb d, Plan.nb d, Plan.nb_nb d, Plan.nb_nb d⟩ : Dev nD ≃ Dev nD) Φ

/-! ## The semaphores as cells -/

/-- The semaphores of the transfers between devices. -/
def dmas : Finset ℕ := Plan.sends ∪ Plan.allRecvs

theorem dmas_eq : dmas = Finset.Ico 34 98 := by decide +kernel
theorem dmas_disj : Disjoint Plan.sends Plan.allRecvs := by decide +kernel
theorem mem_dmas {n : ℕ} (h : n ∈ dmas) : 34 ≤ n ∧ n < 98 := by rw [dmas_eq] at h; exact Finset.mem_Ico.mp h

theorem dq_inj {a b : ℕ} (ha : a < 98) (hb : b < 98) (h : dq a = dq b) : a = b := by
  rw [← dq_val ha, h, dq_val hb]

theorem all_dq : (Finset.univ : Finset (DmaSem sig)) = (Finset.range 34).image dq ∪ dmas.image dq := by decide +kernel
theorem all_cells : (Finset.univ : Finset (Fin 65)) = insert 0 (dmas.image fun n => Fin.ofNat 65 (n - 33)) := by decide +kernel

/-- Every DMA semaphore: those for the device's own copies, those for the transfers between devices. -/
theorem by_dq (Φ : DmaSem sig → sProp 𝕄) :
    bigSep Finset.univ Φ = iprop((bigSep (Finset.range 34) fun n => Φ (dq n)) ∗ bigSep dmas fun n => Φ (dq n)) := by
  have h1 : Set.InjOn dq (Finset.range 34 : Set ℕ) := fun a ha b hb => dq_inj
    (by have := Finset.mem_range.mp ha; omega) (by have := Finset.mem_range.mp hb; omega)
  have h2 : Set.InjOn dq (dmas : Set ℕ) := fun a ha b hb => dq_inj (mem_dmas ha).2 (mem_dmas hb).2
  rw [all_dq, bigSep_union, bigSep_image_of_injOn h1, bigSep_image_of_injOn h2]
  · rfl
  rw [Finset.disjoint_left]
  intro q hq hq'
  obtain ⟨a, ha, rfl⟩ := Finset.mem_image.mp hq
  obtain ⟨b, hb, e⟩ := Finset.mem_image.mp hq'
  have := dq_inj (mem_dmas hb).2 (by have := Finset.mem_range.mp ha; omega) e
  have := Finset.mem_range.mp ha
  have := (mem_dmas hb).1
  omega

theorem kcell_ofNat (c : Dev nD) {n : ℕ} (h : n ∈ dmas) : kcell (c, Fin.ofNat 65 (n - 33)) = cellD c n := by
  obtain ⟨h1, h2⟩ := mem_dmas h
  rw [show Fin.ofNat 65 (n - 33) = ⟨n - 33, by omega⟩ from Fin.ext (Nat.mod_eq_of_lt (by omega))]
  exact kcell_dma c h1 h2

/-- Every cell of a device: its barrier's, its transfers'. -/
theorem by_cell (c : Dev nD) (Φ : GSem nD τ sig → sProp 𝕄) :
    (bigSep Finset.univ fun k : Fin 65 => Φ (kcell (c, k))) = iprop(Φ (cellB c) ∗ bigSep dmas fun n => Φ (cellD c n)) := by
  have h2 : Set.InjOn (fun n => Fin.ofNat 65 (n - 33)) (dmas : Set ℕ) := fun a ha b hb h => by
    have ha := mem_dmas ha
    have hb := mem_dmas hb
    have h : (a - 33) % 65 = (b - 33) % 65 := congrArg Fin.val h
    rw [Nat.mod_eq_of_lt (by omega), Nat.mod_eq_of_lt (by omega)] at h
    omega
  rw [all_cells, bigSep_insert, bigSep_image_of_injOn h2]
  · exact congrArg (BIBase.sep _) (bigSep_congr fun n hn => by rw [kcell_ofNat c hn])
  intro h
  obtain ⟨n, hn, e⟩ := Finset.mem_image.mp h
  have hn := mem_dmas hn
  have e : (n - 33) % 65 = 0 := congrArg Fin.val e
  rw [Nat.mod_eq_of_lt (by omega)] at e
  omega

/-! ## The chunks of the buffers -/

theorem ord_image : ∀ c : Fin 32, (Finset.range 32).image (Plan.ord c) = Finset.range 32 := by decide +kernel
theorem ord_inj : ∀ c : Fin 32, ∀ i ∈ Finset.range 32, ∀ j ∈ Finset.range 32, Plan.ord c i = Plan.ord c j → i = j := by decide +kernel

theorem xRows_all (c : Dev nD) : (Finset.univ : Finset S8192x1024.Idx) = (Finset.range 32).biUnion fun i => xRows (Plan.ord c i) := by
  symm
  refine Finset.eq_univ_of_forall fun j => ?_
  have hj : (j 0).val < 8192 := (j 0).isLt
  have h : (j 0).val / 256 ∈ (Finset.range 32).image (Plan.ord c) := by rw [ord_image]; exact Finset.mem_range.mpr (by omega)
  obtain ⟨i, hi, e⟩ := Finset.mem_image.mp h
  exact Finset.mem_biUnion.mpr ⟨i, hi, Finset.mem_filter.mpr ⟨Finset.mem_univ _, e.symm⟩⟩

theorem oRows_all (c : Dev nD) : (Finset.univ : Finset S16384x1024.Idx) = Plan.pieces.biUnion fun n => oRows (Plan.rowOf c n) := by
  symm
  refine Finset.eq_univ_of_forall fun j => ?_
  have hj : (j 0).val < 16384 := (j 0).isLt
  have h : (j 0).val / 256 ∈ Plan.pieces.image (Plan.rowOf c) := by rw [Plan.rowOf_image]; exact Finset.mem_range.mpr (by omega)
  obtain ⟨i, hi, e⟩ := Finset.mem_image.mp h
  exact Finset.mem_biUnion.mpr ⟨i, hi, Finset.mem_filter.mpr ⟨Finset.mem_univ _, e.symm⟩⟩

theorem slot_all : (Finset.univ : Finset S2x256x1024.Idx) = ({0, 1} : Finset ℕ).biUnion slot := by
  symm
  refine Finset.eq_univ_of_forall fun j => ?_
  have hj : (j 0).val < 2 := (j 0).isLt
  refine Finset.mem_biUnion.mpr ⟨(j 0).val, ?_, Finset.mem_filter.mpr ⟨Finset.mem_univ _, rfl⟩⟩
  rw [Finset.mem_insert, Finset.mem_singleton]
  omega

theorem slot_disj {s t : ℕ} (h : s ≠ t) : Disjoint (slot s) (slot t) := by
  rw [Finset.disjoint_left]
  intro j hj hj'
  exact h ((Finset.mem_filter.mp hj).2.symm.trans (Finset.mem_filter.mp hj').2)

/-- The operand's block whole is its chunks. -/
theorem src_chunks (c : Dev nD) :
    (xL c ↦{fullShare} X m c : sProp 𝕄) = bigSep (Finset.range 32) (srcP m c) := by
  show (xL c ↦[(Finset.univ : Finset S8192x1024.Idx)]{fullShare} X m c : sProp 𝕄) = _
  rw [xRows_all c]
  refine pointsTo_biUnion _ _ fun i hi i' hi' h => ?_
  rw [Finset.disjoint_left]
  intro j hj hj'
  exact h (ord_inj c i hi i' hi' ((Finset.mem_filter.mp hj).2.symm.trans (Finset.mem_filter.mp hj').2))

/-- The result's buffer whole, with any contents, is its chunks. -/
theorem out_chunks (c : Dev nD) (f : S16384x1024.Idx → Elt F .bf16) :
    (oL c ↦{fullShare} f : sProp 𝕄) = bigSep Plan.pieces fun n => oL c ↦[oRows (Plan.rowOf c n)]{fullShare} f := by
  show (oL c ↦[(Finset.univ : Finset S16384x1024.Idx)]{fullShare} f : sProp 𝕄) = _
  rw [oRows_all c]
  refine pointsTo_biUnion _ _ fun i hi i' hi' h => ?_
  rw [Finset.disjoint_left]
  intro j hj hj'
  exact h (Plan.rowOf_inj c i hi i' hi' ((Finset.mem_filter.mp hj).2.symm.trans (Finset.mem_filter.mp hj').2))

theorem pieces_eq : Plan.pieces = Finset.range 32 ∪ Finset.univ.biUnion Plan.recvs := by decide +kernel
theorem pieces_disj : Disjoint (Finset.range 32) ((Finset.univ : Finset (Fin 3)).biUnion Plan.recvs) := by decide +kernel
theorem allRecvs_eq : Plan.allRecvs = Finset.univ.biUnion Plan.recvs := by decide +kernel
theorem recvs_disj : ∀ d d' : Fin 3, d ≠ d' → Disjoint (Plan.recvs d) (Plan.recvs d') := by decide +kernel
theorem whole_pieces : ∀ n ∈ Plan.pieces, Plan.shareOf n = 0 := by decide +kernel

/-- The result's buffer at launch: the own half's chunks, and those that each neighbour sends. -/
theorem out_deal (c : Dev nD) :
    (oL c ↦{fullShare} Y m c : sProp 𝕄)
      = iprop(bigSep (Finset.range 32) (raw m c) ∗ bigSep Finset.univ fun d => bigSep (Plan.recvs d) (raw m c)) := by
  rw [out_chunks, pieces_eq, bigSep_union pieces_disj, bigSep_biUnion_eq _ _ _ fun d _ d' _ h => recvs_disj d d' h]
  rfl

/-- The result's buffer at the end, whole. -/
theorem out_final (c : Dev nD) : (bigSep Plan.pieces (pay m c) : sProp 𝕄) = (oL c ↦{fullShare} G m c) := by
  rw [out_chunks]
  refine bigSep_congr fun n hn => ?_
  unfold pay shr
  rw [whole_pieces n hn]

theorem two (Φ : ℕ → sProp 𝕄) : bigSep ({0, 1} : Finset ℕ) Φ = iprop(Φ 0 ∗ Φ 1) :=
  bigSep_eq_bigSepL_of_eq [0, 1] (by decide) (by decide) Φ

/-- A staging buffer whole is its two slots. -/
theorem slots_deal (b : Loc nD τ sig) (K : ℕ → Finset (Idx b)) (hK : (Finset.univ : Finset (Idx b)) = ({0, 1} : Finset ℕ).biUnion K)
    (hd : ∀ s t, s ≠ t → Disjoint (K s) (K t)) :
    iprop(∃ f : Buf (Elt F) b, b ↦{fullShare} f) ⊢ (bigSep ({0, 1} : Finset ℕ) fun s => iprop(∃ f, b ↦[K s]{fullShare} f) : sProp 𝕄) := by
  have e (f : Buf (Elt F) b) : (b ↦{fullShare} f : sProp 𝕄) = iprop((b ↦[K 0]{fullShare} f) ∗ b ↦[K 1]{fullShare} f) := by
    rw [← two fun s => (b ↦[K s]{fullShare} f : sProp 𝕄), ← pointsTo_biUnion _ _ fun s _ t _ h => hd s t h, ← hK]
  rw [two]
  iintro ⟨%f, H⟩
  ihave H := (Entails.of_eq (e f)) $$ H
  icases H with ⟨H0, H1⟩
  isplitl [H0]
  · iexists f; iexact H0
  · iexists f; iexact H1

/-- Two slots are a staging buffer whole. -/
theorem slots_join (b : Loc nD τ sig) (K : ℕ → Finset (Idx b)) (hK : (Finset.univ : Finset (Idx b)) = ({0, 1} : Finset ℕ).biUnion K)
    (hd : ∀ s t, s ≠ t → Disjoint (K s) (K t)) :
    (bigSep ({0, 1} : Finset ℕ) fun s => iprop(∃ f, b ↦[K s]{fullShare} f) : sProp 𝕄) ⊢ iprop(∃ f : Buf (Elt F) b, b ↦{fullShare} f) := by
  have e (f g : Buf (Elt F) b) :
      iprop((b ↦[K 0]{fullShare} f) ∗ b ↦[K 1]{fullShare} g)
        ⊢ (iprop(∃ h, ⌜∀ t ∈ ({0, 1} : Finset ℕ), ∀ i ∈ K t, h i = (if t = 0 then f else g) i⌝ ∗ b ↦{fullShare} h) : sProp 𝕄) := by
    have h : (bigSep ({0, 1} : Finset ℕ) fun s => (b ↦[K s]{fullShare} (if s = 0 then f else g) : sProp 𝕄))
        ⊢ iprop(∃ h, ⌜∀ t ∈ ({0, 1} : Finset ℕ), ∀ i ∈ K t, h i = (if t = 0 then f else g) i⌝ ∗ b ↦[({0, 1} : Finset ℕ).biUnion K]{fullShare} h) :=
      pointsTo_biUnion_join ({0, 1} : Finset ℕ) K (fun s => if s = 0 then f else g) f fun s _ t _ h => hd s t h
    rw [two, ← hK] at h
    exact h
  rw [two]
  iintro ⟨⟨%f, H0⟩, ⟨%g, H1⟩⟩
  ihave H := (e f g) $$ [H0 H1]
  · isplitl [H0] <;> iassumption
  icases H with ⟨%h, -, H⟩
  iexists h
  iexact H

/-! ## The duty tokens -/

/-- The tokens minted for a device's own cells. -/
def toks (c : Dev nD) : sProp 𝕄 :=
  bigSep Finset.univ fun k : Fin 65 => bigSep Finset.univ fun d : Fin 3 => dutyTok ER (kcell (c, k)) 0 d
/-- The tokens of the duties that a device pays. -/
def pays (c : Dev nD) : sProp 𝕄 :=
  iprop((bigSep Finset.univ fun d => dutyTok ER (cellB (Plan.nb d c)) 0 d) ∗ bigSep Plan.sends (tokP c))

/-- The tokens that stand for a duty, sorted. -/
theorem toks_sort (c : Dev nD) :
    (toks c : sProp 𝕄) ⊢ iprop((bigSep Finset.univ fun d : Fin 3 => dutyTok ER (cellB c) 0 d)
      ∗ (bigSep Plan.sends fun n => dutyTok ER (cellD c n) 0 0) ∗ bigSep Finset.univ fun d => bigSep (Plan.recvs d) fun n => dutyTok ER (cellD c n) 0 0) := by
  have e : (bigSep dmas fun n => (dutyTok ER (cellD c n) 0 0 : sProp 𝕄))
      = iprop((bigSep Plan.sends fun n => dutyTok ER (cellD c n) 0 0) ∗ bigSep Finset.univ fun d => bigSep (Plan.recvs d) fun n => dutyTok ER (cellD c n) 0 0) := by
    rw [dmas, bigSep_union dmas_disj, allRecvs_eq, bigSep_biUnion_eq _ _ _ fun d _ d' _ h => recvs_disj d d' h]
    rfl
  unfold toks
  rw [by_cell c fun g => bigSep Finset.univ fun d : Fin 3 => (dutyTok ER g 0 d : sProp 𝕄), ← e]
  exact BI.sep_mono_r (bigSep_mono fun n _ => BI.bigSep_elim (Finset.mem_univ (0 : Fin 3)))

/-- The barriers' tokens go to the neighbours that signal, -/
theorem bar_around :
    (bigSep Finset.univ fun c : Dev nD => bigSep Finset.univ fun d : Fin 3 => (dutyTok ER (cellB c) 0 d : sProp 𝕄))
      = bigSep Finset.univ fun c : Dev nD => bigSep Finset.univ fun d : Fin 3 => dutyTok ER (cellB (Plan.nb d c)) 0 d := by
  rw [swap]
  exact (bigSep_congr fun d _ => around d _).trans (swap _ _).symm

/-- the receive semaphores' to the neighbours that send. -/
theorem recv_around :
    (bigSep Finset.univ fun c : Dev nD => bigSep Finset.univ fun d => bigSep (Plan.recvs d) fun n => (dutyTok ER (cellD c n) 0 0 : sProp 𝕄))
      = bigSep Finset.univ fun c : Dev nD => bigSep Plan.sends fun n => dutyTok ER (cellD (Plan.peer n c) (Plan.recvOf n)) 0 0 := by
  rw [bigSep_congr fun (c : Dev nD) _ => by_sends (F := F) fun _ n => dutyTok ER (cellD c n) 0 0, swap]
  exact (bigSep_congr fun n _ => around (Plan.link n) _).trans (swap _ _).symm

/-- The tokens reach the devices that pay. -/
theorem toks_around : (bigSep Finset.univ fun c : Dev nD => (toks c : sProp 𝕄)) ⊢ bigSep Finset.univ fun c : Dev nD => pays c := by
  have e : (bigSep Finset.univ fun c : Dev nD => (pays c : sProp 𝕄))
      = iprop((bigSep Finset.univ fun c : Dev nD => bigSep Finset.univ fun d : Fin 3 => dutyTok ER (cellB c) 0 d)
        ∗ (bigSep Finset.univ fun c : Dev nD => bigSep Plan.sends fun n => dutyTok ER (cellD c n) 0 0)
        ∗ bigSep Finset.univ fun c : Dev nD => bigSep Finset.univ fun d => bigSep (Plan.recvs d) fun n => dutyTok ER (cellD c n) 0 0) := by
    rw [bar_around, recv_around, ← bigSep_sep', ← bigSep_sep']
    refine bigSep_congr fun c _ => ?_
    rw [← bigSep_sep']
    rfl
  refine (bigSep_mono fun c _ => toks_sort c).trans ?_
  rw [e, bigSep_sep', bigSep_sep']
  exact .refl _

/-! ## The launch's credit -/

/-- What a device owes at launch: a signal to each neighbour, and its sends. -/
def owed (c : Dev nD) : CellTallies nD τ sig Unit := owing c Plan.sends + due c Finset.univ

theorem sum_owed (g : GSem nD τ sig) :
    ∑ d : Dev nD, owed d g ()
      = (∑ n ∈ Plan.sends, ∑ d : Dev nD, if g = cellD (Plan.peer n d) (Plan.recvOf n) then N else 0)
        + ∑ e : Fin 3, ∑ d : Dev nD, if g = cellB (Plan.nb e d) then 1 else 0 := by
  rw [Finset.sum_comm (s := Plan.sends), Finset.sum_comm (s := (Finset.univ : Finset (Fin 3))), ← Finset.sum_add_distrib]
  refine Finset.sum_congr rfl fun d _ => ?_
  unfold owed owing due
  rw [Pi.add_apply, Finsupp.add_apply, Finset.sum_apply, Finset.sum_apply, Finsupp.finset_sum_apply, Finsupp.finset_sum_apply]
  simp only [tallyAt_apply, and_true]

theorem cellB_inj {a b : Dev nD} (h : cellB a = cellB b) : a = b := congrArg (fun g : GSem nD τ sig => g.1.1) h
theorem cellD_inj {a b : Dev nD} {n n' : ℕ} (hn : n < 98) (hn' : n' < 98) (h : cellD a n = cellD b n') : a = b ∧ n = n' :=
  ⟨congrArg (fun g : GSem nD τ sig => g.1.1) h, dq_inj hn hn' (SemLoc.dma.inj (congrArg Prod.snd h))⟩
theorem cellB_ne (a b : Dev nD) (n : ℕ) : cellB a ≠ cellD b n := fun h => by cases congrArg Prod.snd h

/-- A neighbour is one device. -/
theorem sum_nb (e : Fin 3) (c : Dev nD) (k : ℕ) (P : Dev nD → Prop) [DecidablePred P] (h : ∀ d, P d ↔ c = Plan.nb e d) :
    (∑ d : Dev nD, if P d then k else 0) = k := by
  rw [Finset.sum_eq_single (Plan.nb e c), if_pos ((h _).mpr (Plan.nb_nb e c).symm)]
  · intro d _ hd
    exact if_neg fun hp => hd (by rw [(h d).mp hp, Plan.nb_nb])
  · exact fun h => absurd (Finset.mem_univ _) h

theorem launch_bar (c : Dev nD) : ∑ d : Dev nD, owed d (cellB c) () = 3 := by
  rw [sum_owed, Finset.sum_eq_zero fun n _ => Finset.sum_eq_zero fun d _ => if_neg (cellB_ne _ _ _),
    Finset.sum_congr rfl fun e _ => sum_nb e c 1 _ fun d => ⟨cellB_inj, fun h => congrArg cellB h⟩]
  rfl

theorem sends_recv : ∀ n ∈ Plan.allRecvs, ∃ n' ∈ Plan.sends, Plan.recvOf n' = n := by decide +kernel
theorem recvOf_lt : ∀ n ∈ Plan.sends, Plan.recvOf n < 98 := by decide +kernel
theorem recvOf_inj_all : ∀ a ∈ Plan.sends, ∀ b ∈ Plan.sends, Plan.recvOf a = Plan.recvOf b → a = b := by decide +kernel

theorem launch_recv (c : Dev nD) {n : ℕ} (hn : n ∈ Plan.allRecvs) : ∑ d : Dev nD, owed d (cellD c n) () = N := by
  obtain ⟨n', hn', rfl⟩ := sends_recv n hn
  have hlt := recvOf_lt n' hn'
  rw [sum_owed, Finset.sum_eq_zero (s := (Finset.univ : Finset (Fin 3))) fun e _ => Finset.sum_eq_zero fun d _ => if_neg (cellB_ne _ _ _).symm, Nat.add_zero,
    Finset.sum_eq_single_of_mem n' hn' fun b hb hne => Finset.sum_eq_zero fun d _ => if_neg fun h =>
      hne (recvOf_inj_all b hb n' hn' (cellD_inj hlt (recvOf_lt b hb) h).2.symm)]
  exact sum_nb (Plan.link n') c N _ fun d => ⟨fun h => (cellD_inj hlt hlt h).1, fun h => congrArg (fun a => cellD a _) h⟩

theorem launch_on (c : Dev nD) (sm : SemLoc sig) (k : ℕ) (h : ∑ d : Dev nD, owed d ((c : Thread nD τ), sm) () = k) :
    tallyOn ((c : Thread nD τ), sm) (launchCredit (Pipeline.owing owed) 0 ((c : Thread nD τ), sm))
      = (tallyAt ((c : Thread nD τ), sm) () k : CellTallies nD τ sig Unit) := by
  unfold tallyAt
  refine congrArg _ (Finsupp.ext fun u => ?_)
  rw [Pipeline.launchCredit_owing, Finsupp.single_eq_same]
  exact h

theorem launch_on_bar (c : Dev nD) :
    tallyOn (cellB c) (launchCredit (Pipeline.owing owed) 0 (cellB c)) = (tallyAt (cellB c) () 3 : CellTallies nD τ sig Unit) :=
  launch_on c _ 3 (launch_bar c)
theorem launch_on_recv (c : Dev nD) {n : ℕ} (hn : n ∈ Plan.allRecvs) :
    tallyOn (cellD c n) (launchCredit (Pipeline.owing owed) 0 (cellD c n)) = (tallyAt (cellD c n) () N : CellTallies nD τ sig Unit) :=
  launch_on c _ N (launch_recv c hn)

theorem recv_lt {n : ℕ} (hn : n ∈ Plan.allRecvs) : n < 98 := (mem_dmas (Finset.mem_union_right _ hn)).2
theorem recv_sem_inj : Set.InjOn (fun n => (SemLoc.dma (dq n) : SemLoc sig)) (Plan.allRecvs : Set ℕ) :=
  fun a ha b hb h => dq_inj (recv_lt ha) (recv_lt hb) (SemLoc.dma.inj h)
theorem recv_sub : (Plan.allRecvs.image fun n => (SemLoc.dma (dq n) : SemLoc sig)) ⊆ Finset.univ.erase (SemLoc.reg bar) := fun s hs => by
  obtain ⟨n, -, rfl⟩ := Finset.mem_image.mp hs
  exact Finset.mem_erase.mpr ⟨nofun, Finset.mem_univ _⟩

/-- A device's credit: three units for its barrier, a transfer for each receive semaphore. -/
theorem creds (c : Dev nD) :
    (Pipeline.launchCred owed c : sProp 𝕄)
      ⊢ iprop(cred (tallyAt (cellB c) () 3) ∗ bigSep Plan.allRecvs fun n => cred (tallyAt (cellD c n) () N)) := by
  have e : (bigSep Plan.allRecvs fun n => (cred (tallyAt (cellD c n) () N) : sProp 𝕄))
      = bigSep (Plan.allRecvs.image fun n => (SemLoc.dma (dq n) : SemLoc sig)) fun sm =>
        cred (tallyOn ((c : Thread nD τ), sm) (launchCredit (Pipeline.owing owed) 0 ((c : Thread nD τ), sm))) := by
    rw [bigSep_image_of_injOn recv_sem_inj]
    exact bigSep_congr fun n hn => congrArg _ (launch_on_recv c hn).symm
  unfold Pipeline.launchCred
  rw [e, bigSep_univ_at _ (SemLoc.reg bar), launch_on_bar]
  exact BI.sep_mono_r (bigSep_subset recv_sub)

end Cert.KernelIdealRun
-- ==== Proof.KernelIdeal.Launch.lean ====
/-
The launch: every device's kernel run to its end, the final memory and the final semaphores.
-/
module

public import proofs.«01_k».proof.Proof.KernelIdeal.Deal
public import Idealize.ShloMosaic.Lib.Pipeline.CollectiveSegs

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The body's two ends -/

/-- The kinds of which a list covers all that is held at a stage. -/
theorem kinds_in (c : Dev nD) (s : Plan.Stg) {S A E : Finset Kind} (h : S = A ∪ E) (hd : Disjoint A E) (hE : ∀ k ∈ E, nums s k = ∅) :
    (bigSep A fun k => bigSep (nums s k) (held m c k) : sProp 𝕄) = bigSep S fun k => bigSep (nums s k) (held m c k) := by
  have e : (bigSep E fun k => bigSep (nums s k) (held m c k) : sProp 𝕄) = BI.emp :=
    (bigSep_congr (Ψ := fun _ => BI.emp) fun k hk => by rw [hE k hk, bigSep_empty]).trans (nothing E)
  rw [h, bigSep_union hd, e]
  exact (equiv_iff.mp sep_emp).symm

/-- What a device holds before its body, but for what it owes. -/
def Φ₀ (c : Dev nD) : sProp 𝕄 := iprop(recs m ∗ levAts L lv ∗ bigSep Finset.univ (sigP m c) ∗ Kept m c)
/-- What it holds after. -/
def Φ₁ (c : Dev nD) : sProp 𝕄 := iprop(semVal (cellB c) 0 ∗ All m c (nums Plan.stop))

def dats (_ : Fin 1) (c : Dev nD) : Dat τ (Elt F) Unit ℕ UU ℕ cfg0 c where
  A w := w.elim0
  after w := w.elim0
  Φ t := match t with
    | ⟨0, _⟩ => Φ₀ m c
    | ⟨_ + 1, _⟩ => Φ₁ m c
  q _ := fullShare
  owed t := match t with
    | ⟨0, _⟩ => owed c
    | ⟨_ + 1, _⟩ => 0

theorem owing_stop (c : Dev nD) : owing c Plan.stop.snd = 0 := by
  show owing c ∅ = 0
  unfold owing
  rw [Finset.sum_empty]

/-- From the body's beginning to its end. -/
theorem body_run (c : Dev nD) :
    Sig m c Finset.univ ⊢ wp frame (wpE (defs₀ (F := F)) 𝒱₀ (c : Thread nD τ) none) Set.univ
      (cc0_body (F := F) xM hX oM hO iM hI cM hC cc0_scratch2 cc0_scratch3 cc0_scratch4 cc0_scratch5 cc0_scratch6 cc0_scratch7 cc0_scratch8
        cc0_scratch9) (fun _ => iprop(Φ₁ m c ∗ ∃ W, owes (c : Thread nD τ) 0 W)) := by
  refine BI.Entails.trans ?_ (Idealize.SL.Sem.wp_fupd _ _ _ _ _)
  refine goes_body m c _ fun _ _ => ?_
  unfold Φ₁
  iintro ⟨HB, HA⟩
  imod (closing_done m c) $$ HA with HS
  unfold St
  icases HS with ⟨-, -, HO, HA⟩
  rw [owing_stop]
  imodintro
  isplitr [HO]
  · isplitl [HB] <;> iassumption
  · iexact HO

theorem body_pre (c : Dev nD) : iprop(Φ₀ m c ∗ (dats m 0 c).owesAt () t0_0.castSucc ∗ emp) ⊢ (Sig m c Finset.univ : sProp 𝕄) := by
  unfold Dat.owesAt Pipeline.owesWithin
  rw [show (dats m 0 c).owed t0_0.castSucc = owed c from rfl]
  unfold Φ₀ Sig owed
  iintro ⟨⟨Hr, Hl, HS, HK⟩, ⟨%W, -, HO⟩, -⟩
  isplitl [Hr]; · iexact Hr
  isplitl [Hl]; · iexact Hl
  isplitl [HO]
  · iexists W; iexact HO
  isplitl [HS] <;> iassumption

theorem body_post (c : Dev nD) :
    iprop(Φ₁ m c ∗ ∃ W, owes (c : Thread nD τ) 0 W) ⊢ (iprop(Φ₁ m c ∗ (dats m 0 c).owesAt () t0_0.succ ∗ emp) : sProp 𝕄) := by
  unfold Dat.owesAt Pipeline.owesWithin
  rw [show (dats m 0 c).owed t0_0.succ = 0 from rfl]
  iintro ⟨HΦ, ⟨%W, HO⟩⟩
  isplitl [HΦ]; · iexact HΦ
  isplitl [HO]
  · iexists W
    isplitr
    · ipureintro; exact fun _ _ => Or.inl trivial
    iexact HO
  iempintro

set_option maxRecDepth 20000 in
/-- The body's obligation on a device. -/
theorem body_obligation (c : Dev nD) : BodyObligation (dats (F := F) m 0 c) (defs₀ (F := F)) 𝒱₀ () Set.univ := fun t => by
  rw [fin_N0 t]
  rw [show (Finset.univ : Finset (Fin cfg0.W)) = ∅ from rfl, bigSep_empty, bigSep_empty]
  show iprop(Φ₀ m c ∗ (dats m 0 c).owesAt () t0_0.castSucc ∗ emp) ⊢ wp frame (wpE (defs₀ (F := F)) 𝒱₀ (c : Thread nD τ) none) Set.univ
      (cc0_body (F := F) xM hX oM hO iM hI cM hC cc0_scratch2 cc0_scratch3 cc0_scratch4 cc0_scratch5 cc0_scratch6 cc0_scratch7 cc0_scratch8
        cc0_scratch9) (fun _ => iprop(Φ₁ m c ∗ (dats m 0 c).owesAt () t0_0.succ ∗ emp))
  exact (body_pre m c).trans ((body_run m c).trans (Idealize.SL.Sem.wp_mono _ _ _ fun _ => body_post m c))

/-! ## The launch's ghost state -/

/-- Every DMA semaphore is the kernel's own. -/
abbrev osem : DmaSem sig → SemLoc sig := fun q => .dma q

theorem ownSemFacts : Pipeline.OwnSemFacts cfg0.spec osem where
  isScoped := by decide +kernel
  inj := fun a b h => SemLoc.dma.inj h
  disj := fun _ w => w.elim0

theorem kcell_injective : Function.Injective (kcell : Dev nD × Fin 65 → GSem nD τ sig) := by
  rintro ⟨c, k⟩ ⟨c', k'⟩ h
  have h1 : c = c' := congrArg (fun g : GSem nD τ sig => g.1.1) h
  subst h1
  have h2 : (if k = 0 then SemLoc.reg bar else .dma (dq (33 + k.val))) = (if k' = 0 then SemLoc.reg bar else .dma (dq (33 + k'.val)) : SemLoc sig) :=
    congrArg Prod.snd h
  refine Prod.ext rfl (Fin.ext ?_)
  by_cases hk : k = 0 <;> by_cases hk' : k' = 0
  · rw [hk, hk']
  · rw [if_pos hk, if_neg hk'] at h2; cases h2
  · rw [if_neg hk, if_pos hk'] at h2; cases h2
  · rw [if_neg hk, if_neg hk'] at h2
    have := dq_inj (by omega) (by omega) (SemLoc.dma.inj h2)
    show k.val = k'.val
    omega

def cells : Finset (GSem nD τ sig) := Finset.univ.map ⟨kcell, kcell_injective⟩
def tokOf (x : (Dev nD × Fin 65) × Fin 3) : GSem nD τ sig × ℕ × Fin 3 := (kcell x.1, 0, x.2)
theorem tokOf_injective : Function.Injective tokOf := fun x y h =>
  Prod.ext (kcell_injective (congrArg Prod.fst h)) (congrArg (fun z : GSem nD τ sig × ℕ × Fin 3 => z.2.2) h)
def minted : Finset (GSem nD τ sig × ℕ × Fin 3) := Finset.univ.map ⟨tokOf, tokOf_injective⟩

def u₀ : UU := (initOf (Pipeline.cells cfgs cellOf_inj) (Pipeline.launchToks cfgs cellOf_inj), (initOf cells minted, (1 : Counters)))

theorem deal_u₀ : (ownU u₀ : sProp 𝕄) ⊢ iprop(BI.own (EP (initOf (Pipeline.cells cfgs cellOf_inj) (Pipeline.launchToks cfgs cellOf_inj)))
    ∗ BI.own (ER (initOf cells minted))) :=
  ownU_pair _ _

/-- What a device is dealt of the rounds: its cells' states, positions and marks, and their tokens. -/
def G₀ (c : Dev nD) : sProp 𝕄 :=
  iprop((bigSep Finset.univ fun k : Fin 65 => roundState ER (Rd m) (kcell (c, k)) 0)
    ∗ (bigSep Finset.univ fun k : Fin 65 => reached ER (kcell (c, k)) 0)
    ∗ (bigSep Finset.univ fun k : Fin 65 => atPos ER (kcell (c, k)) 0 ∅ 0) ∗ toks c)

/-- What the devices make of it together. -/
def G₁ (c : Dev nD) : sProp 𝕄 :=
  iprop(recs m ∗ (atPos ER (cellB c) 0 ∅ 0 ∗ bigSep dmas fun n => atPos ER (cellD c n) 0 ∅ 0) ∗ pays c
    ∗ bigSep (Finset.range 34) fun n => semVal (cellD c n) 0)

theorem fund_cells : BI.own (ER (initOf cells minted)) ⊢ (|==> bigSep Finset.univ (G₀ m) : sProp 𝕄) := by
  have hX (Φ : GSem nD τ sig → sProp 𝕄) : bigSep cells Φ = bigSep Finset.univ fun c : Dev nD => bigSep Finset.univ fun k : Fin 65 => Φ (kcell (c, k)) := by
    unfold cells; rw [bigSep_map, bigSep_univ_prod]; rfl
  have hT : bigSep minted (fun x => (dutyTok ER x.1 x.2.1 x.2.2 : sProp 𝕄)) = bigSep Finset.univ fun c : Dev nD => toks c := by
    unfold minted; rw [bigSep_map, bigSep_univ_prod, bigSep_univ_prod]; rfl
  iintro HX
  imod (Rounds.fund ER (Rd m) cells minted) $$ HX with ⟨Hst, Hr, Hat, Htok⟩
  imodintro
  ihave Hst := (Entails.of_eq (hX fun g => roundState ER (Rd m) g 0)) $$ Hst
  ihave Hr := (Entails.of_eq (hX fun g => reached ER g 0)) $$ Hr
  ihave Hat := (Entails.of_eq (hX fun g => atPos ER g 0 ∅ 0)) $$ Hat
  ihave Htok := (Entails.of_eq hT) $$ Htok
  unfold G₀
  simp only [bigSep_sep']
  isplitl [Hst]; · iexact Hst
  isplitl [Hr]; · iexact Hr
  isplitl [Hat] <;> iassumption

theorem ownSems_eq (c : Dev nD) :
    (Pipeline.ownSems0 (Ix := Unit) (Name := ℕ) (U := UU) (Lvl := ℕ) (Val := Elt F) (τ := τ) osem c : sProp 𝕄)
      = iprop((bigSep (Finset.range 34) fun n => semVal (cellD c n) 0) ∗ bigSep dmas fun n => semVal (cellD c n) 0) := by
  unfold Pipeline.ownSems0
  exact by_dq fun q => semVal ((c : Thread nD τ), .dma q) 0

theorem unscopedSems_eq (c : Dev nD) : (unscopedSems0 c : sProp 𝕄) = semVal (cellB c) 0 := by
  unfold unscopedSems0
  rw [bigSep_eq_bigSepL_of_eq [SemLoc.reg bar] (by decide +kernel) (by decide)]
  rfl

/-- On one device the semaphores at zero become cells. -/
theorem core_alloc (c : Dev nD) :
    iprop(Pipeline.ownSems0 (Ix := Unit) (Name := ℕ) (U := UU) (Lvl := ℕ) (Val := Elt F) (τ := τ) osem c ∗ unscopedSems0 c ∗ G₀ m c)
      ⊢ |={Set.univ}=> iprop((bigSep Finset.univ fun k => iprop(∃ κ : ℕ, cellInv ER (Rd m) κ (kcell (c, k))))
          ∗ (bigSep Finset.univ fun k : Fin 65 => reached ER (kcell (c, k)) 0)
          ∗ (bigSep Finset.univ fun k : Fin 65 => atPos ER (kcell (c, k)) 0 ∅ 0) ∗ toks c
          ∗ bigSep (Finset.range 34) fun n => semVal (cellD c n) 0) := by
  have ha : iprop((bigSep Finset.univ fun k : Fin 65 => semVal (kcell (c, k)) 0) ∗ bigSep Finset.univ fun k : Fin 65 => roundState ER (Rd m) (kcell (c, k)) 0)
      ⊢ (|={Set.univ}=> bigSep Finset.univ fun k => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  rw [by_cell c fun g => (semVal g 0 : sProp 𝕄)] at ha
  rw [ownSems_eq, unscopedSems_eq]
  unfold G₀
  iintro ⟨⟨Hown, Hdma⟩, Hbar, Hst, Hr, Hat, Htok⟩
  imod ha $$ [Hbar Hdma Hst] with Hinv
  · isplitr [Hst]
    · isplitl [Hbar] <;> iassumption
    · iexact Hst
  imodintro
  isplitl [Hinv]; · iexact Hinv
  isplitl [Hr]; · iexact Hr
  isplitl [Hat]; · iexact Hat
  isplitl [Htok] <;> iassumption

/-- All devices' parts, regrouped. -/
theorem regroup :
    (bigSep Finset.univ fun c : Dev nD => iprop((bigSep Finset.univ fun k => iprop(∃ κ : ℕ, cellInv ER (Rd m) κ (kcell (c, k))))
          ∗ (bigSep Finset.univ fun k : Fin 65 => reached ER (kcell (c, k)) 0)
          ∗ (bigSep Finset.univ fun k : Fin 65 => atPos ER (kcell (c, k)) 0 ∅ 0) ∗ toks c
          ∗ bigSep (Finset.range 34) fun n => semVal (cellD c n) 0) : sProp 𝕄)
      ⊢ bigSep Finset.univ (G₁ m) := by
  have e (c : Dev nD) : G₁ m c = (iprop(recs m ∗ ((bigSep Finset.univ fun k : Fin 65 => atPos ER (kcell (c, k)) 0 ∅ 0) ∗ pays c
      ∗ bigSep (Finset.range 34) fun n => semVal (cellD c n) 0)) : sProp 𝕄) := by
    rw [by_cell c fun g => (atPos ER g 0 ∅ 0 : sProp 𝕄)]
    rfl
  rw [bigSep_congr fun c _ => e c]
  simp only [bigSep_sep']
  rw [← bigSep_univ_prod (fun ck : Dev nD × Fin 65 => iprop(∃ κ : ℕ, cellInv ER (Rd m) κ (kcell ck))),
    ← bigSep_univ_prod (fun ck : Dev nD × Fin 65 => (reached ER (kcell ck) 0 : sProp 𝕄))]
  iintro ⟨HI, Hr, Hat, Htok, Hown⟩
  ihave HK := (BI.bigSep_exists_pi Finset.univ (fun (ck : Dev nD × Fin 65) (κ : ℕ) => (cellInv ER (Rd m) κ (kcell ck) : sProp 𝕄))) $$ HI
  icases HK with ⟨%K, HI⟩
  ihave Htok := (toks_around (F := F)) $$ Htok
  isplitl [HI Hr]
  · iapply (BI.bigSep_of_persistent Finset.univ (recs (F := F) m))
    unfold recs
    iexists K
    iapply (Entails.of_eq (bigSep_sep' Finset.univ (fun ck : Dev nD × Fin 65 => (cellInv ER (Rd m) (K ck) (kcell ck) : sProp 𝕄)) fun ck => reached ER (kcell ck) 0).symm)
    isplitl [HI] <;> iassumption
  isplitl [Hat]; · iexact Hat
  isplitl [Htok] <;> iassumption

/-- The devices' step together. -/
theorem glob : (bigSep Finset.univ fun c => iprop(Pipeline.ownSems0 (Ix := Unit) (Name := ℕ) (U := UU) (Lvl := ℕ) (Val := Elt F) (τ := τ) osem c ∗ unscopedSems0 c ∗ G₀ m c) : sProp 𝕄)
    ⊢ |={Set.univ}=> bigSep Finset.univ (G₁ m) :=
  ((bigSep_mono fun c _ => core_alloc m c).trans (bigSep_fupd _ _)).trans (BI.fupd_mono (regroup m))

/-! ## Entry and exit -/

/-- What a device starts from, its scoped buffers aside. -/
def entry₀ (c : Dev nD) : sProp 𝕄 :=
  iprop(G₁ m c ∗ levAts L lv ∗ (cred (tallyAt (cellB c) () 3) ∗ bigSep Plan.allRecvs fun n => cred (tallyAt (cellD c n) () N))
    ∗ (xL c ↦{fullShare} X m c) ∗ (oL c ↦{fullShare} Y m c))

/-- What it gives back: its arrays with their final contents, the barrier's semaphore at zero. -/
def exit₀ (c : Dev nD) : sProp 𝕄 := iprop((xL c ↦{fullShare} X m c) ∗ (oL c ↦{fullShare} G m c) ∗ unscopedSems0 c)

theorem enter (c : Dev nD) :
    iprop(Pipeline.unscopedRestP Pipeline.Prefetch.none cfg0.spec c (fun b => m ((c : Thread nD τ).loc b)) ∗ levAts L lv
        ∗ Pipeline.launchCred owed c ∗ prngReg c (ρ c) ∗ G₁ m c)
      ⊢ |={Set.univ}=> iprop(entry₀ m c ∗ emp) := by
  rw [Pipeline.unscopedRestP_none, unscopedRest0_eq]
  iintro ⟨⟨Hx, Ho⟩, Hlev, Hcr, -, HG⟩
  ihave Hc := (creds (F := F) c) $$ Hcr
  imodintro
  unfold entry₀
  isplitl
  · isplitl [HG]; · iexact HG
    isplitl [Hlev]; · iexact Hlev
    isplitl [Hc]; · iexact Hc
    isplitl [Hx] <;> iassumption
  · iempintro

theorem range34 : Finset.range 34 = {0, 1} ∪ (Finset.range 32).image (2 + ·) := by decide +kernel

theorem own_sems (c : Dev nD) : (bigSep (Finset.range 34) fun n => (semVal (cellD c n) 0 : sProp 𝕄))
    = iprop((bigSep {0, 1} fun n => semVal (cellD c n) 0) ∗ bigSep (Finset.range 32) fun i => semVal (cellD c (2 + i)) 0) := by
  rw [range34, bigSep_union (by decide +kernel), bigSep_image_of_injOn fun a _ b _ h => Nat.add_left_cancel h]
  rfl

/-- What a device holds of the plan's things before its body, by kind. -/
theorem start_kinds (c : Dev nD) :
    (bigSep (Finset.univ.erase Kind.snd) fun k => bigSep (nums Plan.start k) (held m c k) : sProp 𝕄)
      = iprop(bigSep (Finset.range 32) (srcP m c) ∗ bigSep {0, 1} (vinP c) ∗ (bigSep {0, 1} fun n => semVal (cellD c n) 0) ∗ bigSep {0, 1} (voutP c)
        ∗ (bigSep (Finset.range 32) fun i => semVal (cellD c (2 + i)) 0) ∗ bigSep (Finset.range 32) (raw m c)
        ∗ (bigSep dmas fun n => atPos ER (cellD c n) 0 ∅ 0) ∗ bigSep Plan.allRecvs fun n => cred (tallyAt (cellD c n) () N)) := by
  rw [← kinds_in m c Plan.start (A := {.src, .vin, .lsem, .vout, .csem, .own, .pos, .crd}) (E := {.lfl, .got, .cst, .cfl, .hold, .done})
      (by decide) (by decide) (by decide),
    bigSep_eq_bigSepL_of_eq [.src, .vin, .lsem, .vout, .csem, .own, .pos, .crd] (by decide) (by decide)]
  rfl

/-- What a device holds of them after its body, by kind. -/
theorem stop_kinds (c : Dev nD) :
    All m c (nums Plan.stop)
      = (iprop(bigSep (Finset.range 32) (srcP m c) ∗ bigSep {0, 1} (vinP c) ∗ (bigSep {0, 1} fun n => semVal (cellD c n) 0) ∗ bigSep {0, 1} (voutP c)
        ∗ (bigSep (Finset.range 32) fun i => semVal (cellD c (2 + i)) 0) ∗ bigSep Plan.pieces (pay m c)
        ∗ bigSep dmas fun n => semVal (cellD c n) 0) : sProp 𝕄) := by
  unfold All
  rw [← kinds_in m c Plan.stop (A := {.src, .vin, .lsem, .vout, .csem, .hold, .done}) (E := {.lfl, .got, .cst, .cfl, .own, .snd, .pos, .crd})
      (by decide) (by decide) (by decide),
    bigSep_eq_bigSepL_of_eq [.src, .vin, .lsem, .vout, .csem, .hold, .done] (by decide) (by decide)]
  rfl

theorem vin_deal (c : Dev nD) :
    iprop(∃ f : Buf (Elt F) (iL c), iL c ↦{fullShare} f) ⊢ (bigSep ({0, 1} : Finset ℕ) (vinP c) : sProp 𝕄) :=
  slots_deal (iL c) slot slot_all fun _ _ h => slot_disj h
theorem vout_deal (c : Dev nD) :
    iprop(∃ f : Buf (Elt F) (cL c), cL c ↦{fullShare} f) ⊢ (bigSep ({0, 1} : Finset ℕ) (voutP c) : sProp 𝕄) :=
  slots_deal (cL c) slot slot_all fun _ _ h => slot_disj h
theorem vin_join (c : Dev nD) :
    (bigSep ({0, 1} : Finset ℕ) (vinP c) : sProp 𝕄) ⊢ iprop(∃ f : Buf (Elt F) (iL c), iL c ↦{fullShare} f) :=
  slots_join (iL c) slot slot_all fun _ _ h => slot_disj h
theorem vout_join (c : Dev nD) :
    (bigSep ({0, 1} : Finset ℕ) (voutP c) : sProp 𝕄) ⊢ iprop(∃ f : Buf (Elt F) (cL c), cL c ↦{fullShare} f) :=
  slots_join (cL c) slot slot_all fun _ _ h => slot_disj h

theorem begin (c : Dev nD) :
    iprop(entry₀ m c ∗ Pipeline.prefHeld Pipeline.Prefetch.none c (fun _ => fullShare.right) (fun k => k.elim0) ∗ Pipeline.scopedRest cfg0.spec c)
      ⊢ (dats m 0 c).Φ 0 := by
  have e : (bigSep Finset.univ (sigP m c) : sProp 𝕄)
      = iprop((bigSep Finset.univ fun d => dutyTok ER (cellB (Plan.nb d c)) 0 d) ∗ bigSep Finset.univ fun d => bigSep (Plan.recvs d) (raw m c)) :=
    bigSep_sep' _ _ _
  rw [show (dats m 0 c).Φ 0 = Φ₀ m c from rfl, scopedRest0_eq]
  unfold Φ₀ Kept entry₀ G₁ pays
  rw [e, start_kinds, own_sems, src_chunks, out_deal]
  iintro ⟨⟨⟨Hr, ⟨HaB, Hat⟩, ⟨HtB, HtD⟩, HzL, HzC⟩, Hl, ⟨HcB, HcD⟩, Hx, Ho, Hs⟩, -, Hi, Hc⟩
  ihave Hi := (vin_deal (F := F) c) $$ Hi
  ihave Hc := (vout_deal (F := F) c) $$ Hc
  isplitl [Hr]; · iexact Hr
  isplitl [Hl]; · iexact Hl
  isplitl [HtB Hs]
  · isplitl [HtB] <;> iassumption
  isplitl [HaB]; · iexact HaB
  isplitl [HcB]; · iexact HcB
  isplitl [HtD]; · iexact HtD
  isplitl [Hx]; · iexact Hx
  isplitl [Hi]; · iexact Hi
  isplitl [HzL]; · iexact HzL
  isplitl [Hc]; · iexact Hc
  isplitl [HzC]; · iexact HzC
  isplitl [Ho]; · iexact Ho
  isplitl [Hat] <;> iassumption

theorem finish (c : Dev nD) :
    (dats m 0 c).Φ (Fin.last cfg0.N) ⊢ iprop(exit₀ m c ∗ Pipeline.ownSems0 osem c ∗ Pipeline.scopedRest cfg0.spec c) := by
  rw [show (dats m 0 c).Φ (Fin.last cfg0.N) = Φ₁ m c from rfl, scopedRest0_eq, ownSems_eq, own_sems]
  unfold Φ₁ exit₀
  rw [stop_kinds, unscopedSems_eq, out_final, ← src_chunks]
  iintro ⟨HB, Hx, Hi, HzL, Hc, HzC, Ho, Hd⟩
  ihave Hi := (vin_join (F := F) c) $$ Hi
  ihave Hc := (vout_join (F := F) c) $$ Hc
  isplitl [Hx Ho HB]
  · isplitl [Hx]; · iexact Hx
    isplitl [Ho] <;> iassumption
  isplitl [HzL HzC Hd]
  · isplitr [Hd]
    · isplitl [HzL] <;> iassumption
    · iexact Hd
  isplitl [Hi] <;> iassumption

/-! ## The run -/

theorem share_eq (c : Dev nD) (w : Fin cfg0.W) : (dats m 0 c).share w = fullShare := w.elim0

theorem waits (c : Dev nD) : (levAts L lv : sProp 𝕄) ⊢ Pipeline.cellsWaits cfgs (dats m) () 0 c :=
  Pipeline.cellsWaits_intro cfgs (dats m) () 0 c fun w s t => w.elim0

/-- What the run ends with on a device: the operand as it was, the result gathered, no unscoped semaphore raised. -/
def Ends (c : Dev nD) (s : MemSt nD τ sig (Elt F)) : Prop :=
  s.mem (xL c) = X m c ∧ s.mem (oL c) = G m c ∧ ∀ sm : SemLoc sig, sm.isScoped .tc = false → s.sem ((c.tc : Thread nD τ), sm) = 0

theorem read_end (c : Dev nD) (s' : Phys nD τ sig (Elt F)) :
    iprop(exit₀ m c ∗ emp ∗ SI s') ⊢ |={Set.univ}=> (iprop(⌜Ends m c s'.mem⌝ ∗ SI s') : sProp 𝕄) := by
  unfold exit₀
  iintro ⟨⟨Hx, Ho, Hu⟩, -, HSI⟩
  icombine HSI Hx gives %hx
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro; exact ⟨Buf.eq_of_forall_mem_univ hx, Buf.eq_of_forall_mem_univ ho, hs⟩
  · iexact HSI

set_option maxRecDepth 20000 in
/-- From any memory with every semaphore at zero, every weakly fair execution of @main on all devices ends, and every final
    state has on each device the operand as it was, the result gathered, and every semaphore at zero. -/
theorem run_main : θ_run defs (onTc (τ := τ) (main (F := F))) ⟨m, fun _ => 0, ρ⟩
    (fun r => (∀ c : Dev nD, r.2.mem (xL c) = X m c ∧ r.2.mem (oL c) = G m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := owed) (howed₀ := fun _ => rfl) (howedN := fun _ => rfl)
    (L := L) (lv := lv) (hL := L_of_ne) (hwaits := waits m)
    (G := G₀ m) (G' := G₁ m) (u₀ := u₀)
    (hu₀ := by
      iintro Hu
      ihave H := (deal_u₀ (F := F)) $$ Hu
      icases H with ⟨HP, HX⟩
      imod (fund_cells m) $$ HX with HG
      imodintro
      isplitl [HP] <;> iassumption)
    (hglob := glob m)
    (hA := fun _ w => w.elim0) (hpf := fun _ k => k.elim0)
    (X := entry₀ m) (Y := exit₀ m) (Z := fun _ => iprop(emp))
    (hX := enter m ρ) (hin := begin m) (hout := finish m)
    (QY := Ends m) (hY := read_end m)
    (hQ := fun _ h hs => ⟨fun c => ⟨(h c).2.2.1, (h c).2.2.2.1⟩, sem_eq_zero hs fun c => (h c).2.2.2.2⟩)

end Cert.KernelIdealRun
-- ==== Proof.KernelIdeal.Value.lean ====
/-
The value: from a memory where each device holds its half of one whole array, every device's result ends as that whole array
with each element rounded to bf16.
-/
module

public import proofs.«01_k».proof.Proof.KernelIdeal.Launch
public import Idealize.ShloMosaic.Lib.Layout

@[expose] public section

noncomputable section

namespace Cert.KernelIdealRun

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ)

/-- The operand is cut along its rows by the mesh's outermost axis: device `c` holds half number `c / 16`. -/
theorem half_val (c : Dev nD) : ((Layout.meshBlock [2, 4, 4] ![[0], []] c) 0).val = c.val / 16 := by
  have hc : c.val < 32 := c.isLt
  show c.val / 16 % 2 * 1 + 0 = c.val / 16
  omega

/-- Row `r` of the whole array is row `r % 8192` of the half that the device names from which chunk `r / 256` comes. -/
theorem row_back (c : Dev nD) (r : ℕ) (hr : r < 16384) : (Plan.org c (r / 256)).val / 16 * 8192 + r % 8192 = r := by
  have h := Plan.org_half c (r / 256) (by omega)
  omega

/-- Where each device holds its half of the whole array `w`, the result of every device is `w`, rounded element by element. -/
theorem G_eq (w : S16384x1024.Idx → Elt F .f32)
    (hX : ∀ c : Dev nD, X m c = Layout.blockN ⟨2, ![8192, 1024]⟩ ⟨2, ![16384, 1024]⟩ (Layout.meshBlock [2, 4, 4] ![[0], []] c) w)
    (c : Dev nD) : G m c = fun i => cast1 (w i) := by
  funext i
  show cast1 _ = cast1 _
  rw [hX, Layout.blockN_apply]
  refine congrArg (fun j => cast1 (w j)) (funext fun a => Fin.ext ?_)
  rw [Layout.TilesN.idx_val]
  match a with
  | ⟨0, _⟩ =>
    refine (congrArg (· * 8192 + (i 0).val % 8192) (half_val _)).trans ?_
    exact row_back c (i 0).val (i 0).isLt
  | ⟨1, _⟩ =>
    show 0 * 1024 + (i 1).val = (i 1).val
    omega

/-- Every run ends with the operand's blocks unchanged and all counters at zero. -/
theorem run_frame (ρ : Dev nD → PrngReg) : θ_run defs (onTc (τ := τ) (main (F := F))) ⟨m, fun _ => 0, ρ⟩
    (fun r => (∀ c : Dev nD, r.2.mem (xL c) = m (xL c)) ∧ r.2.sem = fun _ => 0) :=
  (θ_run defs _ _).mono (fun _ h => ⟨fun c => (h.1 c).1, h.2⟩) (run_main m ρ)

/-- Where each device holds its half of the whole array `w`, every run ends with the result `w`, rounded, on every device, the
    operand's blocks unchanged. -/
theorem run_value (ρ : Dev nD → PrngReg) (w : S16384x1024.Idx → Elt F .f32)
    (hX : ∀ c : Dev nD, X m c = Layout.blockN ⟨2, ![8192, 1024]⟩ ⟨2, ![16384, 1024]⟩ (Layout.meshBlock [2, 4, 4] ![[0], []] c) w) :
    θ_run defs (onTc (τ := τ) (main (F := F))) ⟨m, fun _ => 0, ρ⟩
      (fun r => ∀ c : Dev nD, r.2.mem (oL c) = (fun i => cast1 (w i)) ∧ r.2.mem (xL c) = m (xL c)) :=
  (θ_run defs _ _).mono (fun _ h c => ⟨(h.1 c).2.trans (G_eq m w hX c), (h.1 c).1⟩) (run_main m ρ)

end Cert.KernelIdealRun

end
-- ==== Proof.lean ====
/-
The certificate's claims, assembled: the frames of the kernel at both readings of floats and of the reference, and the equation
of the kernel's result with the reference's, over the extended reals and bit for bit.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Kernel.Value
public import proofs.«01_k».proof.Proof.KernelIdeal.Value
public import Idealize.ShloMosaic.Adequacy
public import Idealize.ShloMosaic.Init

@[expose] public section

noncomputable section

namespace Cert.Proof

open Idealize.ShloMosaic Idealize.ShloMosaic.TcCoe Idealize.SL.Sem

/-- The reference's run ends with every semaphore counter at zero: it touches none. -/
theorem reference_frame : Cert.quiescent_ReferenceIdeal (hReferenceIdeal := Cert.ReferenceIdeal.Gen.facts) :=
  fun m g _ => (θ_run Cert.ReferenceIdeal.defs _ _).mono (fun r h => ⟨fun c => (h c).2, sem_eq_zero_of_no_sems (by decide) r.2⟩)
    (Cert.ReferenceIdeal.Value.run (F := Ideal) m g)

/-- The same at the bit-exact floats: the reference's run ends with every semaphore counter at zero: it touches none. -/
theorem reference_frame_bits : Cert.quiescent_Reference (hReference := Cert.Reference.Gen.facts) :=
  fun m g _ => (θ_run Cert.Reference.defs _ _).mono (fun r h => ⟨fun c => (h c).2, sem_eq_zero_of_no_sems (by decide) r.2⟩)
    (Cert.Reference.Value.run (F := Bits) m g)

/-- The kernel's result on every device is the reference's over the extended reals. -/
theorem value : Cert.algebraic_KernelIdeal_ReferenceIdeal (hKernelIdeal := Cert.KernelIdeal.Gen.facts)
    (hReferenceIdeal := Cert.ReferenceIdeal.Gen.facts) :=
  fun m g m' g' _ hm => ⟨_, Cert.KernelIdealRun.run_value m g _ hm,
    (θ_run Cert.ReferenceIdeal.defs _ _).mono (fun _ h => h 0) (Cert.ReferenceIdeal.Value.run (F := Ideal) m' g')⟩

/-- The kernel's result on every device is the reference's bit for bit: each element is the same rounding of the same element. -/
theorem value_bits : Cert.bitexact_Kernel_Reference (hKernel := Cert.Kernel.Gen.facts) (hReference := Cert.Reference.Gen.facts) :=
  fun m g m' g' _ hm => ⟨_, Cert.KernelRun.run_value m g _ hm,
    (θ_run Cert.Reference.defs _ _).mono (fun _ h => h 0) (Cert.Reference.Value.run (F := Bits) m' g')⟩

/-- All the claims of the certificate. -/
theorem claim : Cert.Claim :=
  ⟨Cert.Kernel.Gen.facts, Cert.KernelIdeal.Gen.facts, Cert.ReferenceIdeal.Gen.facts, Cert.Reference.Gen.facts,
    fun m g _ => Cert.KernelRun.run_frame m g, fun m g _ => Cert.KernelIdealRun.run_frame m g, reference_frame,
    reference_frame_bits, trivial, value, value_bits⟩

end Cert.Proof

end
